-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S8x128
  ∧ IdealRules.bf16_pair.Statement Cert.KernelIdeal.S32x128 Cert.KernelIdeal.S16x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x5632 : Shape := ⟨3, ![128, 1, 5632]⟩
abbrev S15360x2816 : Shape := ⟨2, ![15360, 2816]⟩
abbrev S15360x88 : Shape := ⟨2, ![15360, 88]⟩
abbrev S128x5632 : Shape := ⟨2, ![128, 5632]⟩
abbrev S128x15360 : Shape := ⟨2, ![128, 15360]⟩
abbrev S512x2816 : Shape := ⟨2, ![512, 2816]⟩
abbrev S512x88 : Shape := ⟨2, ![512, 88]⟩
abbrev S128x512 : Shape := ⟨2, ![128, 512]⟩
abbrev S32x128 : Shape := ⟨2, ![32, 128]⟩
abbrev S4x352x128 : Shape := ⟨3, ![4, 352, 128]⟩
abbrev S256x256 : Shape := ⟨2, ![256, 256]⟩
abbrev S128x256 : Shape := ⟨2, ![128, 256]⟩
abbrev S128x88 : Shape := ⟨2, ![128, 88]⟩
abbrev S88x128 : Shape := ⟨2, ![88, 128]⟩
abbrev S1x88x128 : Shape := ⟨3, ![1, 88, 128]⟩
abbrev S128x128 : Shape := ⟨2, ![128, 128]⟩
abbrev S1x8x128 : Shape := ⟨3, ![1, 8, 128]⟩
abbrev S8x128 : Shape := ⟨2, ![8, 128]⟩
abbrev S64x128 : Shape := ⟨2, ![64, 128]⟩
abbrev S16x128 : Shape := ⟨2, ![16, 128]⟩
abbrev S16x1x128 : Shape := ⟨3, ![16, 1, 128]⟩
abbrev S16x2x128 : Shape := ⟨3, ![16, 2, 128]⟩
abbrev S16x128x1 : Shape := ⟨3, ![16, 128, 1]⟩
abbrev S256x128 : Shape := ⟨2, ![256, 128]⟩
abbrev S128x1x15360 : Shape := ⟨3, ![128, 1, 15360]⟩

abbrev nBuf : Space → Nat
  | .hbm => 6
  | .vmem => 10
  | .smem => 0
  | _ => 0

abbrev bufTy : (tb : Table) → Fin (tcTables nBuf tb) → BufTy
  | .hbm, ⟨0, _⟩ => ⟨S128x1x5632, .bf16⟩
  | .hbm, ⟨1, _⟩ => ⟨S15360x2816, .i8⟩
  | .hbm, ⟨2, _⟩ => ⟨S15360x88, .f32⟩
  | .hbm, ⟨3, _⟩ => ⟨S128x5632, .bf16⟩
  | .hbm, ⟨4, _⟩ => ⟨S128x15360, .bf16⟩
  | .hbm, ⟨5, _⟩ => ⟨S128x1x15360, .bf16⟩
  | .local _ .vmem, ⟨0, _⟩ => ⟨S128x5632, .bf16⟩
  | .local _ .vmem, ⟨1, _⟩ => ⟨S512x2816, .i8⟩
  | .local _ .vmem, ⟨2, _⟩ => ⟨S512x2816, .i8⟩
  | .local _ .vmem, ⟨3, _⟩ => ⟨S512x88, .f32⟩
  | .local _ .vmem, ⟨4, _⟩ => ⟨S512x88, .f32⟩
  | .local _ .vmem, ⟨5, _⟩ => ⟨S128x512, .bf16⟩
  | .local _ .vmem, ⟨6, _⟩ => ⟨S128x512, .bf16⟩
  | .local _ .vmem, ⟨7, _⟩ => ⟨S128x5632, .bf16⟩
  | .local _ .vmem, ⟨8, _⟩ => ⟨S32x128, .f32⟩
  | .local _ .vmem, ⟨9, _⟩ => ⟨S4x352x128, .f32⟩
  | _, _ => ⟨S128x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2816 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x88 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S128x1x5632 : Shape := ⟨3, ![128, 1, 5632]⟩
abbrev S15360x2816 : Shape := ⟨2, ![15360, 2816]⟩
abbrev S15360x88 : Shape := ⟨2, ![15360, 88]⟩
abbrev S_ : Shape := ⟨0, ![]⟩
abbrev S15360x88x32 : Shape := ⟨3, ![15360, 88, 32]⟩
abbrev S15360x88x1 : Shape := ⟨3, ![15360, 88, 1]⟩
abbrev S128x1x2816x2 : Shape := ⟨4, ![128, 1, 2816, 2]⟩
abbrev S128x1x2816x1 : Shape := ⟨4, ![128, 1, 2816, 1]⟩
abbrev S128x1x2816 : Shape := ⟨3, ![128, 1, 2816]⟩
abbrev S128x1x15360 : Shape := ⟨3, ![128, 1, 15360]⟩

abbrev nBuf : Space → Nat
  | .hbm => 167
  | .vmem => 0
  | .smem => 0
  | _ => 0

abbrev hbmTy0_0 (i : Nat) : BufTy := match i % 128 with
  | 0 => ⟨S128x1x5632, .bf16⟩
  | 1 => ⟨S15360x2816, .i8⟩
  | 2 => ⟨S15360x88, .f32⟩
  | 3 => ⟨S15360x2816, .i32⟩
  | 4 => ⟨S_, .i32⟩
  | 5 => ⟨S15360x2816, .i32⟩
  | 6 => ⟨S15360x2816, .i32⟩
  | 7 => ⟨S_, .i32⟩
  | 8 => ⟨S15360x2816, .i32⟩
  | 9 => ⟨S15360x2816, .i1⟩
  | 10 => ⟨S_, .i32⟩
  | 11 => ⟨S15360x2816, .i32⟩
  | 12 => ⟨S15360x2816, .i32⟩
  | 13 => ⟨S_, .i32⟩
  | 14 => ⟨S15360x2816, .i32⟩
  | 15 => ⟨S15360x2816, .i1⟩
  | 16 => ⟨S_, .i32⟩
  | 17 => ⟨S15360x2816, .i32⟩
  | 18 => ⟨S15360x2816, .i32⟩
  | 19 => ⟨S_, .i32⟩
  | 20 => ⟨S15360x2816, .i32⟩
  | 21 => ⟨S15360x2816, .i1⟩
  | 22 => ⟨S_, .i32⟩
  | 23 => ⟨S15360x2816, .i32⟩
  | 24 => ⟨S15360x2816, .i32⟩
  | 25 => ⟨S_, .i32⟩
  | 26 => ⟨S15360x2816, .i32⟩
  | 27 => ⟨S15360x2816, .i1⟩
  | 28 => ⟨S_, .f32⟩
  | 29 => ⟨S_, .f32⟩
  | 30 => ⟨S15360x2816, .f32⟩
  | 31 => ⟨S15360x2816, .f32⟩
  | 32 => ⟨S15360x2816, .f32⟩
  | 33 => ⟨S_, .f32⟩
  | 34 => ⟨S_, .f32⟩
  | 35 => ⟨S15360x2816, .f32⟩
  | 36 => ⟨S15360x2816, .f32⟩
  | 37 => ⟨S15360x2816, .f32⟩
  | 38 => ⟨S15360x2816, .f32⟩
  | 39 => ⟨S_, .f32⟩
  | 40 => ⟨S_, .f32⟩
  | 41 => ⟨S15360x2816, .f32⟩
  | 42 => ⟨S15360x2816, .f32⟩
  | 43 => ⟨S15360x2816, .f32⟩
  | 44 => ⟨S_, .f32⟩
  | 45 => ⟨S_, .f32⟩
  | 46 => ⟨S15360x2816, .f32⟩
  | 47 => ⟨S15360x2816, .f32⟩
  | 48 => ⟨S15360x2816, .f32⟩
  | 49 => ⟨S15360x2816, .f32⟩
  | 50 => ⟨S15360x2816, .f32⟩
  | 51 => ⟨S_, .f32⟩
  | 52 => ⟨S_, .f32⟩
  | 53 => ⟨S15360x2816, .f32⟩
  | 54 => ⟨S15360x2816, .f32⟩
  | 55 => ⟨S15360x2816, .f32⟩
  | 56 => ⟨S_, .f32⟩
  | 57 => ⟨S_, .f32⟩
  | 58 => ⟨S15360x2816, .f32⟩
  | 59 => ⟨S15360x2816, .f32⟩
  | 60 => ⟨S15360x2816, .f32⟩
  | 61 => ⟨S15360x2816, .f32⟩
  | 62 => ⟨S_, .f32⟩
  | 63 => ⟨S_, .f32⟩
  | 64 => ⟨S15360x2816, .f32⟩
  | 65 => ⟨S15360x2816, .f32⟩
  | 66 => ⟨S15360x2816, .f32⟩
  | 67 => ⟨S_, .f32⟩
  | 68 => ⟨S_, .f32⟩
  | 69 => ⟨S15360x2816, .f32⟩
  | 70 => ⟨S15360x2816, .f32⟩
  | 71 => ⟨S15360x2816, .f32⟩
  | 72 => ⟨S15360x2816, .f32⟩
  | 73 => ⟨S15360x2816, .f32⟩
  | 74 => ⟨S15360x2816, .f32⟩
  | 75 => ⟨S15360x88x32, .f32⟩
  | 76 => ⟨S15360x88x1, .f32⟩
  | 77 => ⟨S15360x88x32, .f32⟩
  | 78 => ⟨S15360x88x32, .f32⟩
  | 79 => ⟨S15360x2816, .f32⟩
  | 80 => ⟨S15360x2816, .bf16⟩
  | 81 => ⟨S_, .i32⟩
  | 82 => ⟨S15360x2816, .i32⟩
  | 83 => ⟨S15360x2816, .i32⟩
  | 84 => ⟨S_, .i32⟩
  | 85 => ⟨S15360x2816, .i32⟩
  | 86 => ⟨S15360x2816, .i1⟩
  | 87 => ⟨S_, .i32⟩
  | 88 => ⟨S15360x2816, .i32⟩
  | 89 => ⟨S15360x2816, .i32⟩
  | 90 => ⟨S_, .i32⟩
  | 91 => ⟨S15360x2816, .i32⟩
  | 92 => ⟨S15360x2816, .i1⟩
  | 93 => ⟨S_, .i32⟩
  | 94 => ⟨S15360x2816, .i32⟩
  | 95 => ⟨S15360x2816, .i32⟩
  | 96 => ⟨S_, .i32⟩
  | 97 => ⟨S15360x2816, .i32⟩
  | 98 => ⟨S15360x2816, .i1⟩
  | 99 => ⟨S_, .i32⟩
  | 100 => ⟨S15360x2816, .i32⟩
  | 101 => ⟨S15360x2816, .i32⟩
  | 102 => ⟨S_, .i32⟩
  | 103 => ⟨S15360x2816, .i32⟩
  | 104 => ⟨S15360x2816, .i1⟩
  | 105 => ⟨S_, .f32⟩
  | 106 => ⟨S_, .f32⟩
  | 107 => ⟨S15360x2816, .f32⟩
  | 108 => ⟨S15360x2816, .f32⟩
  | 109 => ⟨S15360x2816, .f32⟩
  | 110 => ⟨S_, .f32⟩
  | 111 => ⟨S_, .f32⟩
  | 112 => ⟨S15360x2816, .f32⟩
  | 113 => ⟨S15360x2816, .f32⟩
  | 114 => ⟨S15360x2816, .f32⟩
  | 115 => ⟨S15360x2816, .f32⟩
  | 116 => ⟨S_, .f32⟩
  | 117 => ⟨S_, .f32⟩
  | 118 => ⟨S15360x2816, .f32⟩
  | 119 => ⟨S15360x2816, .f32⟩
  | 120 => ⟨S15360x2816, .f32⟩
  | 121 => ⟨S_, .f32⟩
  | 122 => ⟨S_, .f32⟩
  | 123 => ⟨S15360x2816, .f32⟩
  | 124 => ⟨S15360x2816, .f32⟩
  | 125 => ⟨S15360x2816, .f32⟩
  | 126 => ⟨S15360x2816, .f32⟩
  | 127 => ⟨S15360x2816, .f32⟩
  | _ => ⟨S128x1x5632, .bf16⟩

abbrev hbmTy0_1 (i : Nat) : BufTy := match i % 128 with
  | 0 => ⟨S_, .f32⟩
  | 1 => ⟨S_, .f32⟩
  | 2 => ⟨S15360x2816, .f32⟩
  | 3 => ⟨S15360x2816, .f32⟩
  | 4 => ⟨S15360x2816, .f32⟩
  | 5 => ⟨S_, .f32⟩
  | 6 => ⟨S_, .f32⟩
  | 7 => ⟨S15360x2816, .f32⟩
  | 8 => ⟨S15360x2816, .f32⟩
  | 9 => ⟨S15360x2816, .f32⟩
  | 10 => ⟨S15360x2816, .f32⟩
  | 11 => ⟨S_, .f32⟩
  | 12 => ⟨S_, .f32⟩
  | 13 => ⟨S15360x2816, .f32⟩
  | 14 => ⟨S15360x2816, .f32⟩
  | 15 => ⟨S15360x2816, .f32⟩
  | 16 => ⟨S_, .f32⟩
  | 17 => ⟨S_, .f32⟩
  | 18 => ⟨S15360x2816, .f32⟩
  | 19 => ⟨S15360x2816, .f32⟩
  | 20 => ⟨S15360x2816, .f32⟩
  | 21 => ⟨S15360x2816, .f32⟩
  | 22 => ⟨S15360x2816, .f32⟩
  | 23 => ⟨S15360x2816, .f32⟩
  | 24 => ⟨S15360x88x32, .f32⟩
  | 25 => ⟨S15360x88x1, .f32⟩
  | 26 => ⟨S15360x88x32, .f32⟩
  | 27 => ⟨S15360x88x32, .f32⟩
  | 28 => ⟨S15360x2816, .f32⟩
  | 29 => ⟨S15360x2816, .bf16⟩
  | 30 => ⟨S128x1x2816x2, .bf16⟩
  | 31 => ⟨S128x1x2816x1, .bf16⟩
  | 32 => ⟨S128x1x2816, .bf16⟩
  | 33 => ⟨S128x1x2816x1, .bf16⟩
  | 34 => ⟨S128x1x2816, .bf16⟩
  | 35 => ⟨S128x1x15360, .f32⟩
  | 36 => ⟨S128x1x15360, .f32⟩
  | 37 => ⟨S128x1x15360, .f32⟩
  | 38 => ⟨S128x1x15360, .bf16⟩
  | _ => ⟨S128x1x5632, .bf16⟩

abbrev hbmTy (i : Nat) : BufTy := match i / 128 with
  | 0 => hbmTy0_0 i
  | 1 => hbmTy0_1 i
  | _ => ⟨S128x1x5632, .bf16⟩

abbrev bufTy : (tb : Table) → Fin (tcTables nBuf tb) → BufTy
  | .hbm, ⟨i, _⟩ => hbmTy i
  | _, _ => ⟨S128x1x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_cst_7 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_cst_8 : Ref sig .tc := ⟨.hbm, 33, rfl⟩
abbrev main_cst_9 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev main_cst_10 : Ref sig .tc := ⟨.hbm, 39, rfl⟩
abbrev main_cst_11 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_cst_12 : Ref sig .tc := ⟨.hbm, 44, rfl⟩
abbrev main_cst_13 : Ref sig .tc := ⟨.hbm, 45, rfl⟩
abbrev main_call4_v0 : Ref sig .tc := ⟨.hbm, 46, rfl⟩
abbrev main_call4_v1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_14 : Ref sig .tc := ⟨.hbm, 51, rfl⟩
abbrev main_cst_15 : Ref sig .tc := ⟨.hbm, 52, rfl⟩
abbrev main_call7_v0 : Ref sig .tc := ⟨.hbm, 53, rfl⟩
abbrev main_call7_v1 : Ref sig .tc := ⟨.hbm, 54, rfl⟩
abbrev main_v24 : Ref sig .tc := ⟨.hbm, 55, rfl⟩
abbrev main_cst_16 : Ref sig .tc := ⟨.hbm, 56, rfl⟩
abbrev main_cst_17 : Ref sig .tc := ⟨.hbm, 57, rfl⟩
abbrev main_call8_v0 : Ref sig .tc := ⟨.hbm, 58, rfl⟩
abbrev main_call8_v1 : Ref sig .tc := ⟨.hbm, 59, rfl⟩
abbrev main_v25 : Ref sig .tc := ⟨.hbm, 60, rfl⟩
abbrev main_v26 : Ref sig .tc := ⟨.hbm, 61, rfl⟩
abbrev main_cst_18 : Ref sig .tc := ⟨.hbm, 62, rfl⟩
abbrev main_cst_19 : Ref sig .tc := ⟨.hbm, 63, rfl⟩
abbrev main_call10_v0 : Ref sig .tc := ⟨.hbm, 64, rfl⟩
abbrev main_call10_v1 : Ref sig .tc := ⟨.hbm, 65, rfl⟩
abbrev main_v27 : Ref sig .tc := ⟨.hbm, 66, rfl⟩
abbrev main_cst_20 : Ref sig .tc := ⟨.hbm, 67, rfl⟩
abbrev main_cst_21 : Ref sig .tc := ⟨.hbm, 68, rfl⟩
abbrev main_call11_v0 : Ref sig .tc := ⟨.hbm, 69, rfl⟩
abbrev main_call11_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_c_22 : Ref sig .tc := ⟨.hbm, 81, rfl⟩
abbrev main_v38 : Ref sig .tc := ⟨.hbm, 82, rfl⟩
abbrev main_v39 : Ref sig .tc := ⟨.hbm, 83, rfl⟩
abbrev main_c_23 : Ref sig .tc := ⟨.hbm, 84, rfl⟩
abbrev main_v40 : Ref sig .tc := ⟨.hbm, 85, rfl⟩
abbrev main_v41 : Ref sig .tc := ⟨.hbm, 86, rfl⟩
abbrev main_c_24 : Ref sig .tc := ⟨.hbm, 87, rfl⟩
abbrev main_v42 : Ref sig .tc := ⟨.hbm, 88, rfl⟩
abbrev main_v43 : Ref sig .tc := ⟨.hbm, 89, rfl⟩
abbrev main_c_25 : Ref sig .tc := ⟨.hbm, 90, rfl⟩
abbrev main_v44 : Ref sig .tc := ⟨.hbm, 91, rfl⟩
abbrev main_v45 : Ref sig .tc := ⟨.hbm, 92, rfl⟩
abbrev main_c_26 : Ref sig .tc := ⟨.hbm, 93, rfl⟩
abbrev main_v46 : Ref sig .tc := ⟨.hbm, 94, rfl⟩
abbrev main_v47 : Ref sig .tc := ⟨.hbm, 95, rfl⟩
abbrev main_c_27 : Ref sig .tc := ⟨.hbm, 96, rfl⟩
abbrev main_v48 : Ref sig .tc := ⟨.hbm, 97, rfl⟩
abbrev main_v49 : Ref sig .tc := ⟨.hbm, 98, rfl⟩
abbrev main_c_28 : Ref sig .tc := ⟨.hbm, 99, rfl⟩
abbrev main_v50 : Ref sig .tc := ⟨.hbm, 100, rfl⟩
abbrev main_v51 : Ref sig .tc := ⟨.hbm, 101, rfl⟩
abbrev main_c_29 : Ref sig .tc := ⟨.hbm, 102, rfl⟩
abbrev main_v52 : Ref sig .tc := ⟨.hbm, 103, rfl⟩
abbrev main_v53 : Ref sig .tc := ⟨.hbm, 104, rfl⟩
abbrev main_cst_30 : Ref sig .tc := ⟨.hbm, 105, rfl⟩
abbrev main_cst_31 : Ref sig .tc := ⟨.hbm, 106, rfl⟩
abbrev main_call15_v0 : Ref sig .tc := ⟨.hbm, 107, rfl⟩
abbrev main_call15_v1 : Ref sig .tc := ⟨.hbm, 108, rfl⟩
abbrev main_v54 : Ref sig .tc := ⟨.hbm, 109, rfl⟩
abbrev main_cst_32 : Ref sig .tc := ⟨.hbm, 110, rfl⟩
abbrev main_cst_33 : Ref sig .tc := ⟨.hbm, 111, rfl⟩
abbrev main_call16_v0 : Ref sig .tc := ⟨.hbm, 112, rfl⟩
abbrev main_call16_v1 : Ref sig .tc := ⟨.hbm, 113, rfl⟩
abbrev main_v55 : Ref sig .tc := ⟨.hbm, 114, rfl⟩
abbrev main_v56 : Ref sig .tc := ⟨.hbm, 115, rfl⟩
abbrev main_cst_34 : Ref sig .tc := ⟨.hbm, 116, rfl⟩
abbrev main_cst_35 : Ref sig .tc := ⟨.hbm, 117, rfl⟩
abbrev main_call18_v0 : Ref sig .tc := ⟨.hbm, 118, rfl⟩
abbrev main_call18_v1 : Ref sig .tc := ⟨.hbm, 119, rfl⟩
abbrev main_v57 : Ref sig .tc := ⟨.hbm, 120, rfl⟩
abbrev main_cst_36 : Ref sig .tc := ⟨.hbm, 121, rfl⟩
abbrev main_cst_37 : Ref sig .tc := ⟨.hbm, 122, rfl⟩
abbrev main_call19_v0 : Ref sig .tc := ⟨.hbm, 123, rfl⟩
abbrev main_call19_v1 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_cst_38 : Ref sig .tc := ⟨.hbm, 128, rfl⟩
abbrev main_cst_39 : Ref sig .tc := ⟨.hbm, 129, rfl⟩
abbrev main_call22_v0 : Ref sig .tc := ⟨.hbm, 130, rfl⟩
abbrev main_call22_v1 : Ref sig .tc := ⟨.hbm, 131, rfl⟩
abbrev main_v61 : Ref sig .tc := ⟨.hbm, 132, rfl⟩
abbrev main_cst_40 : Ref sig .tc := ⟨.hbm, 133, rfl⟩
abbrev main_cst_41 : Ref sig .tc := ⟨.hbm, 134, rfl⟩
abbrev main_call23_v0 : Ref sig .tc := ⟨.hbm, 135, rfl⟩
abbrev main_call23_v1 : Ref sig .tc := ⟨.hbm, 136, rfl⟩
abbrev main_v62 : Ref sig .tc := ⟨.hbm, 137, rfl⟩
abbrev main_v63 : Ref sig .tc := ⟨.hbm, 138, rfl⟩
abbrev main_cst_42 : Ref sig .tc := ⟨.hbm, 139, rfl⟩
abbrev main_cst_43 : Ref sig .tc := ⟨.hbm, 140, rfl⟩
abbrev main_call25_v0 : Ref sig .tc := ⟨.hbm, 141, rfl⟩
abbrev main_call25_v1 : Ref sig .tc := ⟨.hbm, 142, rfl⟩
abbrev main_v64 : Ref sig .tc := ⟨.hbm, 143, rfl⟩
abbrev main_cst_44 : Ref sig .tc := ⟨.hbm, 144, rfl⟩
abbrev main_cst_45 : Ref sig .tc := ⟨.hbm, 145, rfl⟩
abbrev main_call26_v0 : Ref sig .tc := ⟨.hbm, 146, rfl⟩
abbrev main_call26_v1 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩

abbrev nD : Nat := 1
abbrev τ : Topo := Topo.v7x

variable {F : FTy → Type} [FloatOps F]
-- ==== Proof.Spec.lean ====
/-
  What the kernel's body computes, as functions of the arrays it reads, for any float type `F`.

  One grid step makes 128 x 512 results: two units `q` of 256 output channels each. For every chunk `c` of 256 input
  positions and every unit the body rebuilds a 256 x 256 tile of weights (`tile`) from the packed bytes, multiplies the
  chunk of the reordered input against it and adds the product to the unit's sums (`step`, `chain`).
-/
module

public import proofs.«01_k».proof.Proof.Gen.KernelIdeal
public import Idealize.ShloMosaic.Lib.Pipeline.FrameBody
public import Idealize.ShloMosaic.Lib.Claim
public import Idealize.ShloMosaic.Lib.Mxu.PassChain

@[expose] public section

noncomputable section

namespace Cert.Proof.Spec

open Cert.KernelIdeal Cert.KernelIdeal.Gen
open Idealize.ShloMosaic

variable {F : FTy → Type} [FloatOps F]

/-! ## The rectangles the body reads -/

/-- Chunk `c` of the (reordered) input: all rows, 256 columns. -/
def rX (c : Fin 22) : Rect S128x5632 :=
  Rect.unit (s := S128x5632) ![0, 256 * c.val] S128x256.size (by intro a; fin_cases a <;> simp <;> omega)

/-- The bytes of 128 output channels (group `g`) in chunk `c`. -/
def rW (g : Fin 4) (c : Fin 22) : Rect S512x2816 :=
  Rect.unit (s := S512x2816) ![128 * g.val, 128 * c.val] S128x128.size
    (by intro a; fin_cases a <;> simp <;> omega)

/-- The scales of group `g` for the pair of blocks `p`: eight rows, four equal ones per block. -/
def rS (g : Fin 4) (p : Fin 44) : Rect S4x352x128 :=
  Rect.unit (s := S4x352x128) ![g.val, 8 * p.val, 0] S1x8x128.size
    (by intro a; fin_cases a <;> simp <;> omega)

/-- Eight rows of the code table. -/
def rC (m : Fin 4) : Rect S32x128 :=
  Rect.unit (s := S32x128) ![8 * m.val, 0] S8x128.size (by intro a; fin_cases a <;> simp <;> omega)

/-! ## A pair of blocks -/

/-- Four vectors rounded, the rows of the first interleaved with those of the third and below them the rows of the second
    with those of the fourth, as the program does it. The kernel packs pairs of roundings into words and reads the words as
    rows (`packsWords`); its idealization, which has no words of floats, interleaves the rows themselves (`packsRows`).
    Everything else is the same in both. -/
class Packs (F : FTy → Type) [FloatOps F] where
  rows : (Fin 4 → FVec F S8x128 .f32) → FVec F S32x128 .bf16

@[reducible] def packsWords {F : FTy → Type} [BitOps F] : Packs F where
  rows p := bitcastToFloat .bf16 (bitcast S32x128 16
    (concatenate S16x128 0 [⟨S8x128, packElementwise (p 0) (p 2)⟩, ⟨S8x128, packElementwise (p 1) (p 3)⟩]
      concatenates_S8x128_S8x128_S16x128_d0 : IVec S16x128 32) (by decide))

@[reducible] def packsRows {F : FTy → Type} [FloatOps F] : Packs F where
  rows p := interleaveRows S32x128
    (concatenate S16x128 0 [⟨S8x128, (truncf .bf16 (p 0) bitsLt_bf16_f32 : FVec F S8x128 .bf16)⟩,
      ⟨S8x128, (truncf .bf16 (p 1) bitsLt_bf16_f32 : FVec F S8x128 .bf16)⟩] concatenates_S8x128_S8x128_S16x128_d0)
    (concatenate S16x128 0 [⟨S8x128, (truncf .bf16 (p 2) bitsLt_bf16_f32 : FVec F S8x128 .bf16)⟩,
      ⟨S8x128, (truncf .bf16 (p 3) bitsLt_bf16_f32 : FVec F S8x128 .bf16)⟩] concatenates_S8x128_S8x128_S16x128_d0)
    bitcasts_S32x128_w16_S16x128_w32

/-- The scaled table of a pair of blocks, rounded: 16 rows per block, one per code. -/
def table [Packs F] (code : Vec F S32x128 .f32) (sc : Vec F S1x8x128 .f32) : FVec F S32x128 .bf16 :=
  let s : FVec F S8x128 .f32 := shapeCast S8x128 sc shapeCasts_S1x8x128_S8x128
  let p (m : Fin 4) : FVec F S8x128 .f32 := mulf (View.ld code (rC m) : FVec F S8x128 .f32) s
  let r : FVec F S32x128 .bf16 := Packs.rows p
  let r₀ : FVec F S16x128 .bf16 := extractStridedSlice S16x128 ![0, 0] r slices_S32x128_o0_0_S16x128
  let r₁ : FVec F S16x128 .bf16 := extractStridedSlice S16x128 ![16, 0] r slices_S32x128_o16_0_S16x128
  shapeCast S32x128 (concatenate S16x2x128 1
      [⟨S16x1x128, shapeCast S16x1x128 r₀ shapeCasts_S16x128_S16x1x128⟩,
       ⟨S16x1x128, shapeCast S16x1x128 r₁ shapeCasts_S16x128_S16x1x128⟩]
      concatenates_S16x1x128_S16x1x128_S16x2x128_d1 : FVec F S16x2x128 .bf16)
    shapeCasts_S16x2x128_S32x128

/-- The codes of one nibble of the 32 bytes of a block, two bytes to an element. -/
def codes (w : IVec S8x128 32) : IVec S16x128 32 :=
  extsi 32 (bitcast S16x128 16 (andi w (broadcast S8x128 252645135#32)) bitcasts_S8x128_w32_S16x128_w16) natLt_16_32

/-- The rows of a block's table at given codes. -/
def rowsAt (t : FVec F S16x128 .bf16) (i : IVec S16x128 32) : FVec F S16x128 .bf16 :=
  dynamicGather 0 t (shapeCast S16x128 (shapeCast S16x128x1 i shapeCasts_S16x128_S16x128x1)
    shapeCasts_S16x128x1_S16x128)

/-- The rows at the codes of the first byte of every two, -/
def evens (t : FVec F S16x128 .bf16) (w : IVec S8x128 32) : FVec F S16x128 .bf16 :=
  rowsAt t (andi (codes w) (broadcast S16x128 255#32))

/-- and of the second. -/
def odds (t : FVec F S16x128 .bf16) (w : IVec S8x128 32) : FVec F S16x128 .bf16 :=
  rowsAt t (shrsi (codes w) (broadcast S16x128 8#32))

/-- The second nibbles of packed bytes, moved down. -/
def high (w : IVec S8x128 32) : IVec S8x128 32 := shrsi w (broadcast S8x128 4#32)

/-- The weights of a pair of blocks of 128 output channels: 128 input positions (in the kernel's order) x 128 channels. -/
def pair [Packs F] (code : Vec F S32x128 .f32) (sc : Vec F S1x8x128 .f32) (wt : IVec S64x128 8) : FVec F S128x128 .bf16 :=
  let T := table code sc
  let t0 : FVec F S16x128 .bf16 := extractStridedSlice S16x128 ![0, 0] T slices_S32x128_o0_0_S16x128
  let t1 : FVec F S16x128 .bf16 := extractStridedSlice S16x128 ![16, 0] T slices_S32x128_o16_0_S16x128
  let w0 : IVec S8x128 32 := bitcast S8x128 32 (extractStridedSlice S32x128 ![0, 0] wt slices_S64x128_o0_0_S32x128)
    bitcasts_S32x128_w8_S8x128_w32
  let w1 : IVec S8x128 32 := bitcast S8x128 32 (extractStridedSlice S32x128 ![32, 0] wt slices_S64x128_o32_0_S32x128)
    bitcasts_S32x128_w8_S8x128_w32
  concatenate S128x128 0
    [⟨S16x128, evens t0 w0⟩, ⟨S16x128, evens t0 (high w0)⟩, ⟨S16x128, odds t0 w0⟩, ⟨S16x128, odds t0 (high w0)⟩,
     ⟨S16x128, evens t1 w1⟩, ⟨S16x128, evens t1 (high w1)⟩, ⟨S16x128, odds t1 w1⟩, ⟨S16x128, odds t1 (high w1)⟩]
    concatenates_S16x128_S16x128_S16x128_S16x128_S16x128_S16x128_S16x128_S16x128_S128x128_d0

/-! ## A tile and the chain of products -/

variable (xp : Vec F S128x5632 .bf16) (code : Vec F S32x128 .f32) (at' : Vec F S4x352x128 .f32)
  (w : Vec F S512x2816 .i8)

/-- The bytes of group `g` in chunk `c`, byte by channel. -/
def bytes (g : Fin 4) (c : Fin 22) : IVec S128x128 8 :=
  transpose S128x128 [1, 0] (View.ld w (rW g c) : IVec S128x128 8) transposes_S128x128_p1_0_S128x128

/-- Chunk `c` of the reordered input. -/
def xchunk (c : Fin 22) : FVec F S128x256 .bf16 := View.ld xp (rX c)

/-- The staging register chunk `c` goes through. -/
def reg (c : Fin 22) : Fin 2 := ⟨c.val % 2, by omega⟩

variable [Packs F]

/-- The weights of group `g` in chunk `c`: 256 input positions x 128 channels. -/
def half (g : Fin 4) (c : Fin 22) : FVec F S256x128 .bf16 :=
  concatenate S256x128 0
    [⟨S128x128, pair code (View.ld at' (rS g ⟨2 * c.val, by omega⟩))
        (extractStridedSlice S64x128 ![0, 0] (bytes w g c) slices_S128x128_o0_0_S64x128)⟩,
     ⟨S128x128, pair code (View.ld at' (rS g ⟨2 * c.val + 1, by omega⟩))
        (extractStridedSlice S64x128 ![64, 0] (bytes w g c) slices_S128x128_o64_0_S64x128)⟩]
    concatenates_S128x128_S128x128_S256x128_d0

/-- The weights of unit `q` in chunk `c`. -/
def tile (q : Fin 2) (c : Fin 22) : FVec F S256x256 .bf16 :=
  concatenate S256x256 1
    [⟨S256x128, half code at' w ⟨2 * q.val, by omega⟩ c⟩, ⟨S256x128, half code at' w ⟨2 * q.val + 1, by omega⟩ c⟩]
    concatenates_S256x128_S256x128_S256x256_d1

/-- One chunk: both units' tiles staged and multiplied, the products added to the units' sums. -/
def step (c : Fin 22) (s : Mxu F) : Mxu F :=
  Mxu.pushAcc 1 (reg c) false 0 fits_0_128
    (Mxu.pushAcc 0 (reg c) false 0 fits_0_128 s (tile code at' w 0 c) (xchunk xp c)) (tile code at' w 1 c) (xchunk xp c)

/-- The first `n` chunks. -/
def chain (s : Mxu F) : (n : ℕ) → n ≤ 22 → Mxu F
  | 0, _ => s
  | n + 1, h => step xp code at' w ⟨n, h⟩ (chain s n (Nat.le_of_succ_le h))

/-- The state after all chunks, -/
def last (s : Mxu F) : Mxu F := chain xp code at' w s 22 le_rfl

/-- and the two results the body stores from it. -/
def res0 (s : Mxu F) : FVec F S128x256 .bf16 :=
  truncf .bf16 ((last xp code at' w s).read 0 0 fits_0_128 : FVec F S128x256 .f32) bitsLt_bf16_f32
def res1 (s : Mxu F) : FVec F S128x256 .bf16 :=
  truncf .bf16 (((last xp code at' w s).pop 0 0 128 fits_0_128).read 1 0 fits_0_128 : FVec F S128x256 .f32) bitsLt_bf16_f32

end Cert.Proof.Spec

end
-- ==== Proof.Init.lean ====
/-
  What the kernel's body leaves in its scratch buffers, as functions of the arrays it reads, for any float type `F`.

  The first step reorders the input (`xPieces`): each chunk of 256 columns is multiplied by a permutation matrix. It also
  spells out the table of codes (`codeTable`). Every step turns the scales of its 512 output channels around (`atPieces`).
-/
module

public import proofs.«01_k».proof.Proof.Spec

@[expose] public section

noncomputable section

namespace Cert.Proof.Spec

open Cert.KernelIdeal Cert.KernelIdeal.Gen
open Idealize.ShloMosaic

variable {F : FTy → Type} [FloatOps F]

/-! ## The reordered input -/

/-- Row index, and the source of a column: the columns of a group of 64 in 4 x 16 order become 16 x 4. -/
def permRow : IVec S256x256 32 := iota .tc S256x256 32 [0] iota_S256x256_d0_w32
def permSrc : IVec S256x256 32 :=
  let d : IVec S256x256 32 := iota .tc S256x256 32 [1] iota_S256x256_d1_w32
  ori (ori (andi d (broadcast S256x256 4294967232#32))
      (shli (andi d (broadcast S256x256 15#32)) (broadcast S256x256 2#32)))
    (andi (shrsi d (broadcast S256x256 4#32)) (broadcast S256x256 3#32))

/-- The permutation matrix. -/
def permTile : FVec F S256x256 .bf16 :=
  truncf .bf16 (select (cmpi .eq permRow permSrc) (broadcast S256x256 (Scalar.ofBits .f32 0x3F800000#32))
    (broadcast S256x256 (Scalar.ofBits .f32 0x00000000#32)) : FVec F S256x256 .f32) bitsLt_bf16_f32

/-- The unit chunk `n` goes through. -/
def unitOf (n : ℕ) : Fin 2 := ⟨n % 2, by omega⟩

/-- Both units with the permutation matrix staged. -/
def laden : Mxu F := ((Mxu.init : Mxu F).pushed 0 0 false permTile).pushed 1 0 false permTile

/-- Chunk `c` multiplied: the first time on each unit from the staged matrix, then from the one the unit holds. -/
def mult (x : Vec F S128x5632 .bf16) (c : Fin 22) (s : Mxu F) : Mxu F :=
  let v : FVec F S128x256 .bf16 := shapeCast S128x256 (View.ld x (rX c) : FVec F S128x256 .bf16) shapeCasts_S128x256_S128x256
  if c.val < 2 then s.accLhs (unitOf c.val) 0 0 v fits_0_128
  else s.accBy (unitOf c.val) ⟨.bf16, false, permTile⟩ 0 v fits_0_128

/-- The state after `n` chunks, each read and its rows cleared. -/
def permuted (x : Vec F S128x5632 .bf16) : (n : ℕ) → n ≤ 22 → Mxu F
  | 0, _ => laden
  | n + 1, h => (mult x ⟨n, h⟩ (permuted x n (Nat.le_of_succ_le h))).pop (unitOf n) 0 128 fits_0_128

/-- Chunk `c` reordered. -/
def xPiece (x : Vec F S128x5632 .bf16) (c : Fin 22) : FVec F S128x256 .bf16 :=
  shapeCast S128x256 (truncf .bf16
    ((mult x c (permuted x c.val c.isLt.le)).read (unitOf c.val) 0 fits_0_128 : FVec F S128x256 .f32) bitsLt_bf16_f32
      : FVec F S128x256 .bf16) shapeCasts_S128x256_S128x256

/-- The stores of the first `n` chunks, the last one first. -/
def xPieces (x : Vec F S128x5632 .bf16) : (n : ℕ) → n ≤ 22 → List (View.Piece (Elt F) S128x5632 .bf16)
  | 0, _ => []
  | n + 1, h => ⟨rX ⟨n, h⟩, xPiece x ⟨n, h⟩⟩ :: xPieces x n (Nat.le_of_succ_le h)

/-! ## The table of codes -/

/-- The code of a row: rows come eight to a store and four stores to a table. -/
def codeOf : IVec S32x128 32 :=
  let r : IVec S32x128 32 := iota .tc S32x128 32 [0] iota_S32x128_d0_w32
  ori (shli (andi r (broadcast S32x128 3#32)) (broadcast S32x128 2#32)) (shrsi r (broadcast S32x128 3#32))

/-- The sixteen values, by code. -/
def nf4 : List (BitVec 32 × BitVec 32) :=
  [(0#32, 0xBF800000#32), (1#32, 0xBF3239B1#32), (2#32, 0xBF066B30#32), (3#32, 0xBECA32A0#32),
   (4#32, 0xBE91A24D#32), (5#32, 0xBE3D353F#32), (6#32, 0xBDBA7871#32), (7#32, 0x00000000#32),
   (8#32, 0x3DA2FAFF#32), (9#32, 0x3E24CAE3#32), (10#32, 0x3E7C04DD#32), (11#32, 0x3EAD033A#32),
   (12#32, 1054975160#32), (13#32, 1058015147#32), (14#32, 1060705203#32), (15#32, 0x3F800000#32)]

/-- The value of every row's code, picked one code after another. -/
def codeTable : FVec F S32x128 .f32 :=
  nf4.foldl (fun t p => select (cmpi .eq codeOf (broadcast S32x128 p.1)) (broadcast S32x128 (Scalar.ofBits .f32 p.2)) t)
    (broadcast S32x128 (Scalar.ofBits .f32 0x00000000#32))

/-! ## The scales, turned around -/

/-- The scales of group `g`: 128 output channels by 88 blocks. -/
def rA (g : Fin 4) : Rect S512x88 :=
  Rect.unit (s := S512x88) ![128 * g.val, 0] S128x88.size (by intro a; fin_cases a <;> simp <;> omega)

/-- Every fourth row of group `g`, from row `m` on. -/
def rT (g m : Fin 4) : Rect S4x352x128 where
  off := ![g.val, m.val, 0]
  size := S1x88x128.size
  stride := ![1, 4, 1]
  inb := by intro a; fin_cases a <;> simp [S1x88x128, S4x352x128] <;> omega
  stride_pos := spos_1_4_1

/-- The scales of group `g`, block by channel. -/
def atRows (a : Vec F S512x88 .f32) (g : Fin 4) : FVec F S1x88x128 .f32 :=
  shapeCast S1x88x128 (transpose S88x128 [1, 0] (View.ld a (rA g) : FVec F S128x88 .f32) transposes_S128x88_p1_0_S88x128
    : FVec F S88x128 .f32) shapeCasts_S88x128_S1x88x128

/-- The first `n` stores, the last one first: four per group. -/
def atPieces (a : Vec F S512x88 .f32) : (n : ℕ) → n ≤ 16 → List (View.Piece (Elt F) S4x352x128 .f32)
  | 0, _ => []
  | n + 1, h => ⟨rT ⟨n / 4, by omega⟩ ⟨n % 4, by omega⟩, atRows a ⟨n / 4, by omega⟩⟩ :: atPieces a n (Nat.le_of_succ_le h)

/-! ## The output block -/

/-- The two stores of the output block. -/
def rY (q : Fin 2) : Rect S128x512 :=
  Rect.unit (s := S128x512) ![0, 256 * q.val] S128x256.size (by intro a; fin_cases a <;> simp <;> omega)

/-- The output block from the scratch buffers, the packed bytes and the state the chain starts from. -/
def outPieces [Packs F] (xp : Vec F S128x5632 .bf16) (code : Vec F S32x128 .f32) (at' : Vec F S4x352x128 .f32)
    (w : Vec F S512x2816 .i8) (s : Mxu F) : List (View.Piece (Elt F) S128x512 .bf16) :=
  [⟨rY 1, res1 xp code at' w s⟩,
   ⟨rY 0, res0 xp code at' w s⟩]

end Cert.Proof.Spec

end
-- ==== Proof.Chain.lean ====
/-
  The two chains of products of the kernel's body, read out of the matrix units' state, for any float type `F`.

  Reordering the input leaves every chunk multiplied by the permutation matrix alone (`xPiece_eq`) and hands over a state
  with no tile staged and no sums held (`clean_permuted`). From such a state the 22 steps leave each unit's rows at the
  products of the chunks added in order (`chain_facts`), so both kinds of step store the same block (`outPieces_clean`).
-/
module

public import proofs.«01_k».proof.Proof.Init

@[expose] public section

noncomputable section

namespace Cert.Proof.Spec

open Cert.KernelIdeal Cert.KernelIdeal.Gen
open Idealize.ShloMosaic Idealize.ShloMosaic.Mxu

variable {F : FTy → Type} [FloatOps F]

/-- No tile staged and no sums held in the rows the body uses. -/
def Clean (s : Mxu F) : Prop :=
  (∀ q r, s.reg q r = none) ∧ ∀ q (r : Fin 128), s.live q (row fits_0_128 r) = false

/-! ## One unit does not touch the other -/

section Other
variable {q q' r : Fin 2} (hne : q' ≠ q) (s : Mxu F) (v : FVec F (STile 256) .bf16) (l : FVec F (STile 128) .bf16)
include hne

theorem read_pushAcc_ne : (pushAcc q r false 0 fits_0_128 s v l).read q' 0 fits_0_128 = s.read q' 0 fits_0_128 := by
  unfold pushAcc; rw [read_accLhs_ne _ _ _ _ _ _ _ _ _ (.inl hne), read_pushed]

theorem live_pushAcc_ne (R : Fin 1024) : (pushAcc q r false 0 fits_0_128 s v l).live q' R = s.live q' R := by
  unfold pushAcc; rw [live_accLhs, live_pushed, if_neg (fun h => hne h.1)]

end Other

/-- A step leaves every register as empty as it found it. -/
theorem reg_pushAcc_none (q r : Fin 2) (s : Mxu F) (v : FVec F (STile 256) .bf16) (l : FVec F (STile 128) .bf16)
    (h : ∀ q r, s.reg q r = none) (q' r' : Fin 2) : (pushAcc q r false 0 fits_0_128 s v l).reg q' r' = none := by
  by_cases hq : q' = q ∧ r' = r
  · obtain ⟨rfl, rfl⟩ := hq; exact reg_pushAcc ..
  · unfold pushAcc; rw [reg_accLhs_ne _ _ _ _ _ _ _ _ hq, reg_pushed_ne _ _ _ _ _ _ _ hq, h]

theorem clean_init : Clean (Mxu.init : Mxu F) := ⟨fun _ _ => reg_init .., fun _ _ => rfl⟩

/-! ## The 22 steps -/

section Steps
variable [Packs F] (xp : Vec F S128x5632 .bf16) (code : Vec F S32x128 .f32) (at' : Vec F S4x352x128 .f32)
  (w : Vec F S512x2816 .i8)

/-- The product of chunk `c` on unit `q`. -/
def product (q : Fin 2) (c : Fin 22) : FVec F (STile 128) .f32 :=
  FloatOps.mxuPass (DotDims.plain 128 256 256) (xchunk xp c) (tile code at' w q c)

/-- The products of the first `n + 1` chunks, added in order. -/
def sums (q : Fin 2) : (n : ℕ) → n + 1 ≤ 22 → FVec F (STile 128) .f32
  | 0, h => product xp code at' w q ⟨0, h⟩
  | n + 1, h => addf (sums q n (Nat.le_of_succ_le h)) (product xp code at' w q ⟨n + 1, h⟩)

/-- One step into rows that hold no sums, -/
theorem step_first (c : Fin 22) (s : Mxu F) (hr : ∀ q r, s.reg q r = none)
    (hl : ∀ q (r : Fin 128), s.live q (row fits_0_128 r) = false) (q : Fin 2) :
    (step xp code at' w c s).read q 0 fits_0_128 = product xp code at' w q c := by
  unfold step
  match q with
  | 0 => rw [read_pushAcc_ne (by decide), read_pushAcc_of_not_live _ _ _ _ _ _ _ _ (hr _ _) (hl _)]; rfl
  | 1 =>
    rw [read_pushAcc_of_not_live _ _ _ _ _ _ _ _ (reg_pushAcc_none _ _ _ _ _ hr _ _)
      (fun r => (live_pushAcc_ne (by decide) _ _ _ _).trans (hl _ r))]; rfl

/-- and into rows that hold some. -/
theorem step_next (c : Fin 22) (s : Mxu F) (hr : ∀ q r, s.reg q r = none)
    (hl : ∀ q (r : Fin 128), s.live q (row fits_0_128 r) = true) (q : Fin 2) :
    (step xp code at' w c s).read q 0 fits_0_128 = addf (s.read q 0 fits_0_128) (product xp code at' w q c) := by
  unfold step
  match q with
  | 0 => rw [read_pushAcc_ne (by decide), read_pushAcc_of_live _ _ _ _ _ _ _ _ (hr _ _) (hl _)]; rfl
  | 1 =>
    rw [read_pushAcc_of_live _ _ _ _ _ _ _ _ (reg_pushAcc_none _ _ _ _ _ hr _ _)
      (fun r => (live_pushAcc_ne (by decide) _ _ _ _).trans (hl _ r)), read_pushAcc_ne (by decide)]; rfl

theorem step_reg (c : Fin 22) (s : Mxu F) (hr : ∀ q r, s.reg q r = none) (q r : Fin 2) :
    (step xp code at' w c s).reg q r = none :=
  reg_pushAcc_none _ _ _ _ _ (reg_pushAcc_none _ _ _ _ _ hr) _ _

theorem step_live (c : Fin 22) (s : Mxu F) (q : Fin 2) (r : Fin 128) :
    (step xp code at' w c s).live q (row fits_0_128 r) = true := by
  unfold step
  match q with
  | 0 => rw [live_pushAcc_ne (by decide), live_pushAcc_row]
  | 1 => rw [live_pushAcc_row]

/-- From a clean state the rows hold the sums. -/
theorem chain_facts (s : Mxu F) (hs : Clean s) : ∀ (n : ℕ) (h : n + 1 ≤ 22),
    (∀ q, (chain xp code at' w s (n + 1) h).read q 0 fits_0_128 = sums xp code at' w q n h)
      ∧ (∀ q r, (chain xp code at' w s (n + 1) h).reg q r = none)
      ∧ ∀ q (r : Fin 128), (chain xp code at' w s (n + 1) h).live q (row fits_0_128 r) = true
  | 0, h => ⟨step_first xp code at' w ⟨0, h⟩ s hs.1 hs.2, step_reg xp code at' w ⟨0, h⟩ s hs.1, step_live xp code at' w ⟨0, h⟩ s⟩
  | n + 1, h => by
    obtain ⟨h1, h2, h3⟩ := chain_facts s hs n (Nat.le_of_succ_le h)
    refine ⟨fun q => ?_, step_reg xp code at' w ⟨n + 1, h⟩ _ h2, step_live xp code at' w ⟨n + 1, h⟩ _⟩
    exact (step_next xp code at' w ⟨n + 1, h⟩ _ h2 h3 q).trans (by rw [h1]; rfl)

/-- What unit `q` holds after the 22 chunks. -/
def total (q : Fin 2) : FVec F (STile 128) .f32 := sums xp code at' w q 21 le_rfl

theorem res0_clean (s : Mxu F) (hs : Clean s) :
    res0 xp code at' w s = truncf .bf16 (total xp code at' w 0 : FVec F S128x256 .f32) bitsLt_bf16_f32 := by
  unfold res0 last; rw [(chain_facts xp code at' w s hs 21 le_rfl).1 0]; rfl

theorem res1_clean (s : Mxu F) (hs : Clean s) :
    res1 xp code at' w s = truncf .bf16 (total xp code at' w 1 : FVec F S128x256 .f32) bitsLt_bf16_f32 := by
  unfold res1 last
  rw [read_pop_ne _ _ _ _ _ _ _ (.inl (by decide)), (chain_facts xp code at' w s hs 21 le_rfl).1 1]; rfl

/-- The stores of the output block from any clean state are those from the initial one. -/
theorem outPieces_clean (s : Mxu F) (hs : Clean s) : outPieces xp code at' w s = outPieces xp code at' w Mxu.init := by
  unfold outPieces
  rw [res0_clean _ _ _ _ s hs, res1_clean _ _ _ _ s hs, res0_clean _ _ _ _ _ clean_init, res1_clean _ _ _ _ _ clean_init]

end Steps

/-! ## Reordering the input -/

variable (x : Vec F S128x5632 .bf16)

/-- The permutation matrix as it is staged. -/
def permStaged : Staged F := ⟨.bf16, false, permTile⟩

/-- What holds after `n` chunks: no sums, and the matrix still staged on the units not yet used. -/
def Ready (n : ℕ) (s : Mxu F) : Prop :=
  (∀ q r, s.reg q r = if r = 0 ∧ n ≤ q.val then some permStaged else none)
    ∧ ∀ q (r : Fin 128), s.live q (row fits_0_128 r) = false

theorem ready_laden : Ready 0 (laden : Mxu F) := by
  refine ⟨fun q r => ?_, fun q r => ?_⟩
  · unfold laden
    match q, r with
    | 0, 0 => rw [reg_pushed_ne _ _ _ _ _ _ _ (by decide), reg_pushed_of_none _ _ _ _ _ (reg_init ..)]; rfl
    | 0, 1 => rw [reg_pushed_ne _ _ _ _ _ _ _ (by decide), reg_pushed_ne _ _ _ _ _ _ _ (by decide)]; exact reg_init ..
    | 1, 0 =>
      rw [reg_pushed_of_none _ _ _ _ _ (by rw [reg_pushed_ne _ _ _ _ _ _ _ (by decide)]; exact reg_init ..)]; rfl
    | 1, 1 => rw [reg_pushed_ne _ _ _ _ _ _ _ (by decide), reg_pushed_ne _ _ _ _ _ _ _ (by decide)]; exact reg_init ..
  · unfold laden; rw [live_pushed, live_pushed]; rfl

/-- Chunk `c` of the input. -/
def xin (c : Fin 22) : FVec F S128x256 .bf16 :=
  shapeCast S128x256 (View.ld x (rX c) : FVec F S128x256 .bf16) shapeCasts_S128x256_S128x256

theorem mult_read (c : Fin 22) (s : Mxu F) (hs : Ready c.val s) :
    (mult x c s).read (unitOf c.val) 0 fits_0_128 = permStaged.pass (xin x c) := by
  unfold mult
  dsimp only
  split
  · next hc =>
    rw [read_accLhs_of_not_live _ _ _ _ _ _ (hs.2 _), staged_eq, hs.1, if_pos ⟨rfl, by simp [unitOf]; omega⟩]; rfl
  · rw [read_accBy_of_not_live _ _ _ _ _ _ (hs.2 _)]; rfl

theorem mult_ready (c : Fin 22) (s : Mxu F) (hs : Ready c.val s) :
    Ready (c.val + 1) ((mult x c s).pop (unitOf c.val) 0 128 fits_0_128) := by
  have hl : ∀ q (r : Fin 128), ((mult x c s).pop (unitOf c.val) 0 128 fits_0_128).live q (row fits_0_128 r) = false := by
    intro q r
    by_cases hq : q = unitOf c.val
    · subst hq; exact live_pop_row ..
    · rw [live_pop, if_neg (fun h => hq h.1)]
      unfold mult; dsimp only; split
      · rw [live_accLhs, if_neg (fun h => hq h.1)]; exact hs.2 q r
      · rw [live_accBy, if_neg (fun h => hq h.1)]; exact hs.2 q r
  refine ⟨fun q r => ?_, hl⟩
  rw [reg_pop]; unfold mult; dsimp only; split
  · next hc =>
    by_cases hq : q = unitOf c.val ∧ r = 0
    · obtain ⟨rfl, rfl⟩ := hq
      rw [reg_accLhs, if_neg]; rintro ⟨-, h⟩; simp [unitOf] at h; omega
    · rw [reg_accLhs_ne _ _ _ _ _ _ _ _ hq, hs.1]
      by_cases hr : r = 0
      · have hq' : q.val ≠ c.val := fun h => hq ⟨Fin.ext (by simp [unitOf]; omega), hr⟩
        by_cases hcq : c.val ≤ q.val
        · rw [if_pos ⟨hr, hcq⟩, if_pos ⟨hr, by omega⟩]
        · rw [if_neg (fun h => hcq h.2), if_neg (fun h => hcq (by omega))]
      · rw [if_neg (fun h => hr h.1), if_neg (fun h => hr h.1)]
  · next hc =>
    rw [reg_accBy, hs.1, if_neg (fun h => by omega), if_neg (fun h => by omega)]

theorem ready_permuted : ∀ (n : ℕ) (h : n ≤ 22), Ready n (permuted x n h)
  | 0, _ => ready_laden
  | n + 1, h => mult_ready x ⟨n, h⟩ _ (ready_permuted n (Nat.le_of_succ_le h))

/-- The state the first step hands over is clean. -/
theorem clean_permuted : Clean (permuted x 22 le_rfl) :=
  ⟨fun q r => by rw [(ready_permuted x 22 le_rfl).1, if_neg (fun h => by omega)], (ready_permuted x 22 le_rfl).2⟩

/-- A chunk reordered is the chunk times the permutation matrix. -/
theorem xPiece_eq (c : Fin 22) : xPiece x c =
    shapeCast S128x256 (truncf .bf16 (permStaged.pass (xin x c) : FVec F S128x256 .f32) bitsLt_bf16_f32
      : FVec F S128x256 .bf16) shapeCasts_S128x256_S128x256 := by
  unfold xPiece; rw [mult_read x c _ (ready_permuted x c.val c.isLt.le)]

/-! ## The scales cover their buffer -/

theorem mem_atPieces (a : Vec F S512x88 .f32) (k : ℕ) : ∀ (n : ℕ) (h : n ≤ 16) (hk : k < n),
    (⟨rT ⟨k / 4, by omega⟩ ⟨k % 4, by omega⟩, atRows a ⟨k / 4, by omega⟩⟩ : View.Piece (Elt F) S4x352x128 .f32) ∈ atPieces a n h
  | n + 1, h, hk => by
    unfold atPieces
    by_cases e : k = n
    · subst e; exact List.mem_cons_self
    · exact List.mem_cons_of_mem _ (mem_atPieces a k n (Nat.le_of_succ_le h) (by omega))

theorem mem_rT (y : S4x352x128.Idx) (g m : Fin 4) (hg : g.val = (y 0).val) (hm : m.val = (y 1).val % 4) : y ∈ (rT g m).set := by
  have h1 : (y 1).val < 352 := (y 1).isLt
  have h2 : (y 2).val < 128 := (y 2).isLt
  rw [LoadRect.mem_set]
  intro a
  match a with
  | 0 => exact ⟨0, by show 0 < 1; omega, by show (y 0).val = g.val + 1 * 0; omega⟩
  | 1 => exact ⟨(y 1).val / 4, by show _ < 88; omega, by show (y 1).val = m.val + 4 * ((y 1).val / 4); omega⟩
  | 2 => exact ⟨(y 2).val, by show _ < 128; omega, by show (y 2).val = 0 + 1 * (y 2).val; omega⟩

theorem cover_atPieces (a : Vec F S512x88 .f32) (y : S4x352x128.Idx) : ∃ p ∈ atPieces a 16 le_rfl, y ∈ p.1.set := by
  have h0 : (y 0).val < 4 := (y 0).isLt
  exact ⟨_, mem_atPieces a (4 * (y 0).val + (y 1).val % 4) 16 le_rfl (by omega),
    mem_rT y _ _ (by show _ / 4 = _; omega) (by show _ % 4 = _; omega)⟩

/-- The scales turned around, -/
def scales (a : Vec F S512x88 .f32) : Vec F S4x352x128 .f32 := View.canon (atPieces a 16 le_rfl)
/-- the reordered input, -/
def reordered : Vec F S128x5632 .bf16 := View.canon (xPieces x 22 le_rfl)
/-- the table of codes as the buffer holds it, -/
def values : Vec F S32x128 .f32 :=
  View.canon [⟨Rect.unit (s := S32x128) ![0, 0] S32x128.size inb_S32x128_S32x128_0_0,
    shapeCast S32x128 codeTable shapeCasts_S32x128_S32x128⟩]
/-- and the output block of a step. -/
def block [Packs F] (x : Vec F S128x5632 .bf16) (w : Vec F S512x2816 .i8) (a : Vec F S512x88 .f32) : Vec F S128x512 .bf16 :=
  View.canon (outPieces (reordered x) values (scales a) w Mxu.init)

end Cert.Proof.Spec

end
-- ==== Proof.Bits.RunFirst.lean ====
/-
  The run of the kernel body at the first grid step: what it leaves in every buffer.
-/
module

public import proofs.«01_k».proof.Proof.Gen.Kernel.Frame
public import proofs.«01_k».proof.Proof.Gen.Kernel.Skeleton
public import proofs.«01_k».proof.Proof.Init

@[expose] public section

noncomputable section

namespace Cert.Proof.Bits

open Cert.Kernel Cert.Kernel.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] packsWords

variable {F : FTy → Type} [BitOps F]

local notation "𝕄" => MT nD τ sig Unit (Elt F) ℕ (UR sig nD τ) ℕ

set_option maxHeartbeats 8000000 in
/-- At the first step the body reorders the input and spells out the table of codes, then does what every step does. -/
theorem run_first (c : Dev nD) (i : grid0.Coords)
    (hi : Scalar.cmpi .ne (Scalar.extui (Scalar.cmpi .eq (BitVec.ofNat 32 (i 0).val) 0#32) : BitVec 32) 0#32 = 1#1)
    (arg1 : Memref sig .tc .vmem S128x5632 .bf16) (harg1 : arg1.IsWhole) (arg2 : Memref sig .tc .vmem S512x2816 .i8) (harg2 : arg2.IsWhole)
    (arg3 : Memref sig .tc .vmem S512x88 .f32) (harg3 : arg3.IsWhole) (arg4 : Memref sig .tc .vmem S128x512 .bf16) (harg4 : arg4.IsWhole)
    (arg5 : Memref sig .tc .vmem S128x5632 .bf16) (harg5 : arg5.IsWhole) (arg6 : Memref sig .tc .vmem S32x128 .f32) (harg6 : arg6.IsWhole)
    (arg7 : Memref sig .tc .vmem S4x352x128 .f32) (harg7 : arg7.IsWhole)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (E : Set ℕ) (Q : PUnit → sProp 𝕄) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7)
        ∗ (iprop(∃ g4 g5 g6 g7, ⌜arg5.view.read (Elt F) g5 = View.canon (xPieces (arg1.view.read (Elt F) f1) 22 le_rfl)
              ∧ arg6.view.read (Elt F) g6 = View.canon [⟨Rect.unit (s := S32x128) ![0, 0] S32x128.size inb_S32x128_S32x128_0_0,
                  shapeCast S32x128 codeTable shapeCasts_S32x128_S32x128⟩]
              ∧ arg7.view.read (Elt F) g7 = arg7.view.read (Elt F) (arg7.view.writes (Elt F) f7 (atPieces (arg3.view.read (Elt F) f3) 16 le_rfl))
              ∧ arg4.view.read (Elt F) g4 = View.canon (outPieces (arg5.view.read (Elt F) g5) (arg6.view.read (Elt F) g6) (arg7.view.read (Elt F) g7) (arg2.view.read (Elt F) f2) (permuted (arg1.view.read (Elt F) f1) 22 le_rfl))⌝
            ∗ (arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} g4) ∗ (arg5.view.loc (c : Thread nD τ) ↦{fullShare} g5) ∗ (arg6.view.loc (c : Thread nD τ) ↦{fullShare} g6) ∗ (arg7.view.loc (c : Thread nD τ) ↦{fullShare} g7)) -∗ Q ⟨⟩))
      ⊢ wp frame (wpE (defs₀ (F := F)) Variants.none c none) E
          (cc0_nf4_linear i arg1 harg1 arg2 harg2 arg3 harg3 arg4 harg4 arg5 harg5 arg6 harg6 arg7 harg7) Q := by
  simp only [cc0_nf4_linear_eq_skeleton]; unfold cc0_nf4_linear_skel
  iintro ⟨H1, H2, H3, H4, H5, H6, H7, Hk⟩
  sl_exec_parts!
  sl_step
  iapply Hk
  iexists _; iexists _; iexists _; iexists _
  isplitr; swap
  · isplitl [H1]; · iexact H1
    isplitl [H2]; · iexact H2
    isplitl [H3]; · iexact H3
    isplitl [H4]; · iexact H4
    isplitl [H5]; · iexact H5
    isplitl [H6]; · iexact H6
    iexact H7
  ipureintro
  refine ⟨(View.read_writes_junk_eq_canon _ _).trans ?_, (View.read_writes_junk_eq_canon _ _).trans ?_, rfl,
    (View.read_writes_junk_eq_canon _ _).trans ?_⟩
  · exact congrArg View.canon rfl
  · exact congrArg View.canon rfl
  · exact congrArg View.canon rfl

end Cert.Proof.Bits

end
-- ==== Proof.Bits.RunLater.lean ====
/-
  The run of the kernel body at a later grid step: what it leaves in every buffer.
-/
module

public import proofs.«01_k».proof.Proof.Gen.Kernel.Frame
public import proofs.«01_k».proof.Proof.Gen.Kernel.Skeleton
public import proofs.«01_k».proof.Proof.Init

@[expose] public section

noncomputable section

namespace Cert.Proof.Bits

open Cert.Kernel Cert.Kernel.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] packsWords

variable {F : FTy → Type} [BitOps F]

local notation "𝕄" => MT nD τ sig Unit (Elt F) ℕ (UR sig nD τ) ℕ

set_option maxHeartbeats 8000000 in
/-- At a later step the reordered input and the table of codes are read as the first step left them. -/
theorem run_later (c : Dev nD) (i : grid0.Coords)
    (hi : ¬ Scalar.cmpi .ne (Scalar.extui (Scalar.cmpi .eq (BitVec.ofNat 32 (i 0).val) 0#32) : BitVec 32) 0#32 = 1#1)
    (arg1 : Memref sig .tc .vmem S128x5632 .bf16) (harg1 : arg1.IsWhole) (arg2 : Memref sig .tc .vmem S512x2816 .i8) (harg2 : arg2.IsWhole)
    (arg3 : Memref sig .tc .vmem S512x88 .f32) (harg3 : arg3.IsWhole) (arg4 : Memref sig .tc .vmem S128x512 .bf16) (harg4 : arg4.IsWhole)
    (arg5 : Memref sig .tc .vmem S128x5632 .bf16) (harg5 : arg5.IsWhole) (arg6 : Memref sig .tc .vmem S32x128 .f32) (harg6 : arg6.IsWhole)
    (arg7 : Memref sig .tc .vmem S4x352x128 .f32) (harg7 : arg7.IsWhole)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (E : Set ℕ) (Q : PUnit → sProp 𝕄) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7)
        ∗ (iprop(∃ g4 g7, ⌜arg7.view.read (Elt F) g7 = arg7.view.read (Elt F) (arg7.view.writes (Elt F) f7 (atPieces (arg3.view.read (Elt F) f3) 16 le_rfl))
              ∧ arg4.view.read (Elt F) g4 = View.canon (outPieces (arg5.view.read (Elt F) f5) (arg6.view.read (Elt F) f6) (arg7.view.read (Elt F) g7) (arg2.view.read (Elt F) f2) Mxu.init)⌝
            ∗ (arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} g4) ∗ (arg5.view.loc (c : Thread nD τ) ↦{fullShare} f5) ∗ (arg6.view.loc (c : Thread nD τ) ↦{fullShare} f6) ∗ (arg7.view.loc (c : Thread nD τ) ↦{fullShare} g7)) -∗ Q ⟨⟩))
      ⊢ wp frame (wpE (defs₀ (F := F)) Variants.none c none) E
          (cc0_nf4_linear i arg1 harg1 arg2 harg2 arg3 harg3 arg4 harg4 arg5 harg5 arg6 harg6 arg7 harg7) Q := by
  simp only [cc0_nf4_linear_eq_skeleton]; unfold cc0_nf4_linear_skel
  iintro ⟨H1, H2, H3, H4, H5, H6, H7, Hk⟩
  sl_exec_parts!
  sl_step
  iapply Hk
  iexists _; iexists _
  isplitr; swap
  · isplitl [H1]; · iexact H1
    isplitl [H2]; · iexact H2
    isplitl [H3]; · iexact H3
    isplitl [H4]; · iexact H4
    isplitl [H5]; · iexact H5
    isplitl [H6]; · iexact H6
    iexact H7
  ipureintro
  refine ⟨rfl, (View.read_writes_junk_eq_canon _ _).trans ?_⟩
  exact congrArg View.canon rfl

end Cert.Proof.Bits

end
-- ==== Proof.Bits.Body.lean ====
/-
  The kernel body between contents: from the blocks of the input, the packed bytes and the scales it leaves the block of
  the output at `Spec.block`, and its scratch buffers at the reordered input and the table of codes.
-/
module

public import proofs.«01_k».proof.Proof.Chain
public import proofs.«01_k».proof.Proof.Bits.RunFirst
public import proofs.«01_k».proof.Proof.Bits.RunLater

@[expose] public section

noncomputable section

namespace Cert.Proof.Bits

open Cert.Kernel Cert.Kernel.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] packsWords

variable {F : FTy → Type} [BitOps F]

local notation "𝕄" => MT nD τ sig Unit (Elt F) ℕ (UR sig nD τ) ℕ

/-! ## The body between contents -/

section Body
variable (c : Dev nD) (i : grid0.Coords)
    (arg1 : Memref sig .tc .vmem S128x5632 .bf16) (harg1 : arg1.IsWhole) (arg2 : Memref sig .tc .vmem S512x2816 .i8) (harg2 : arg2.IsWhole)
    (arg3 : Memref sig .tc .vmem S512x88 .f32) (harg3 : arg3.IsWhole) (arg4 : Memref sig .tc .vmem S128x512 .bf16) (harg4 : arg4.IsWhole)
    (arg5 : Memref sig .tc .vmem S128x5632 .bf16) (harg5 : arg5.IsWhole) (arg6 : Memref sig .tc .vmem S32x128 .f32) (harg6 : arg6.IsWhole)
    (arg7 : Memref sig .tc .vmem S4x352x128 .f32) (harg7 : arg7.IsWhole)
    (x : Vec F S128x5632 .bf16) (w : Vec F S512x2816 .i8) (a : Vec F S512x88 .f32)

/-- The first step: the scratch buffers hold anything before it. -/
theorem body_first (E : Set ℕ) (K : PUnit → sProp 𝕄) (hi : Scalar.cmpi .ne (Scalar.extui (Scalar.cmpi .eq (BitVec.ofNat 32 (i 0).val) 0#32) : BitVec 32) 0#32 = 1#1) :
    iprop(owns (c : Thread nD τ) arg1 fullShare x ∗ owns (c : Thread nD τ) arg2 fullShare w ∗ owns (c : Thread nD τ) arg3 fullShare a
        ∗ (∃ d, owns (c : Thread nD τ) arg4 fullShare d)
        ∗ (∃ f, (arg5.view.loc (c : Thread nD τ) ↦{fullShare} f)) ∗ (∃ f, (arg6.view.loc (c : Thread nD τ) ↦{fullShare} f))
        ∗ (∃ f, (arg7.view.loc (c : Thread nD τ) ↦{fullShare} f))
        ∗ (iprop(owns (c : Thread nD τ) arg1 fullShare x ∗ owns (c : Thread nD τ) arg2 fullShare w ∗ owns (c : Thread nD τ) arg3 fullShare a
            ∗ owns (c : Thread nD τ) arg4 fullShare (block x w a)
            ∗ owns (c : Thread nD τ) arg5 fullShare (reordered x) ∗ owns (c : Thread nD τ) arg6 fullShare values
            ∗ (∃ f, (arg7.view.loc (c : Thread nD τ) ↦{fullShare} f))) -∗ K ⟨⟩))
      ⊢ wp frame (wpE (defs₀ (F := F)) Variants.none c none) E
          (cc0_nf4_linear i arg1 harg1 arg2 harg2 arg3 harg3 arg4 harg4 arg5 harg5 arg6 harg6 arg7 harg7) K := by
  unfold owns
  rw [harg1.set_eq_univ, harg2.set_eq_univ, harg3.set_eq_univ, harg4.set_eq_univ, harg5.set_eq_univ, harg6.set_eq_univ]
  iintro ⟨⟨%f1, %hf1, H1⟩, ⟨%f2, %hf2, H2⟩, ⟨%f3, %hf3, H3⟩, ⟨%d4, %f4, -, H4⟩, ⟨%f5, H5⟩, ⟨%f6, H6⟩, ⟨%f7, H7⟩, Hk⟩
  subst hf1 hf2 hf3
  iapply (run_first c i hi arg1 harg1 arg2 harg2 arg3 harg3 arg4 harg4 arg5 harg5 arg6 harg6 arg7 harg7 f1 f2 f3 f4 f5 f6 f7 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨%g4, %g5, %g6, %g7, %hg, H1, H2, H3, H4, H5, H6, H7⟩
  obtain ⟨h5, h6, h7, h4⟩ := hg
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists g4; isplitr
    · ipureintro
      rw [h4, h5, h6, h7, View.read_writes_eq_canon _ _ _ (cover_atPieces _), outPieces_clean _ _ _ _ _ (clean_permuted _)]; rfl
    iexact H4
  isplitl [H5]
  · iexists g5; isplitr; · ipureintro; exact h5
    iexact H5
  isplitl [H6]
  · iexists g6; isplitr; · ipureintro; exact h6
    iexact H6
  iexists g7; iexact H7

/-- A later step finds the reordered input and the table of codes. -/
theorem body_later (E : Set ℕ) (K : PUnit → sProp 𝕄) (hi : ¬ Scalar.cmpi .ne (Scalar.extui (Scalar.cmpi .eq (BitVec.ofNat 32 (i 0).val) 0#32) : BitVec 32) 0#32 = 1#1) :
    iprop(owns (c : Thread nD τ) arg1 fullShare x ∗ owns (c : Thread nD τ) arg2 fullShare w ∗ owns (c : Thread nD τ) arg3 fullShare a
        ∗ (∃ d, owns (c : Thread nD τ) arg4 fullShare d)
        ∗ owns (c : Thread nD τ) arg5 fullShare (reordered x) ∗ owns (c : Thread nD τ) arg6 fullShare values
        ∗ (∃ f, (arg7.view.loc (c : Thread nD τ) ↦{fullShare} f))
        ∗ (iprop(owns (c : Thread nD τ) arg1 fullShare x ∗ owns (c : Thread nD τ) arg2 fullShare w ∗ owns (c : Thread nD τ) arg3 fullShare a
            ∗ owns (c : Thread nD τ) arg4 fullShare (block x w a)
            ∗ owns (c : Thread nD τ) arg5 fullShare (reordered x) ∗ owns (c : Thread nD τ) arg6 fullShare values
            ∗ (∃ f, (arg7.view.loc (c : Thread nD τ) ↦{fullShare} f))) -∗ K ⟨⟩))
      ⊢ wp frame (wpE (defs₀ (F := F)) Variants.none c none) E
          (cc0_nf4_linear i arg1 harg1 arg2 harg2 arg3 harg3 arg4 harg4 arg5 harg5 arg6 harg6 arg7 harg7) K := by
  unfold owns
  rw [harg1.set_eq_univ, harg2.set_eq_univ, harg3.set_eq_univ, harg4.set_eq_univ, harg5.set_eq_univ, harg6.set_eq_univ]
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, H7⟩, Hk⟩
  subst hf1 hf2 hf3
  iapply (run_later c i hi arg1 harg1 arg2 harg2 arg3 harg3 arg4 harg4 arg5 harg5 arg6 harg6 arg7 harg7 f1 f2 f3 f4 f5 f6 f7 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨%g4, %g7, %hg, H1, H2, H3, H4, H5, H6, H7⟩
  obtain ⟨h7, h4⟩ := hg
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists g4; isplitr
    · ipureintro
      rw [h4, hf5, hf6, h7, View.read_writes_eq_canon _ _ _ (cover_atPieces _)]; rfl
    iexact H4
  isplitl [H5]
  · iexists f5; isplitr; · ipureintro; exact hf5
    iexact H5
  isplitl [H6]
  · iexists f6; isplitr; · ipureintro; exact hf6
    iexact H6
  iexists g7; iexact H7

end Body

end Cert.Proof.Bits

end
-- ==== Proof.Bits.Frame.lean ====
/-
  The run of the whole program. Every step leaves its block of the output at `Spec.block` of the blocks it reads; the
  reordered input and the table of codes, made at the first step, are carried to the later ones in scratch buffers.
-/
module

public import proofs.«01_k».proof.Proof.Bits.Body

@[expose] public section

noncomputable section

namespace Cert.Proof.Bits

open Cert.Kernel Cert.Kernel.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] packsWords

variable {F : FTy → Type} [BitOps F]

local notation "𝕄" => MT nD τ sig Unit (Elt F) ℕ (UR sig nD τ) ℕ

/-! ## The pipeline's proof data -/

variable (m : (ℓ : Loc nD τ sig) → Buf (Elt F) ℓ) (ρ : Dev nD → PrngReg)

/-- The first point. -/
abbrev t0 : Fin cfg0.N := ⟨0, by decide⟩

/-- The scratch buffers after the first point. -/
def carried (c : Dev nD) : sProp 𝕄 :=
  iprop(owns (c : Thread nD τ) (Memref.whole cc0_scratch0 : Memref sig .tc .vmem S128x5632 .bf16) fullShare (reordered (iblk m c 0 t0))
    ∗ owns (c : Thread nD τ) (Memref.whole cc0_scratch1 : Memref sig .tc .vmem S32x128 .f32) fullShare values
    ∗ (∃ f : Buf (Elt F) ((c : Thread nD τ).loc cc0_scratch2), ((c : Thread nD τ).loc cc0_scratch2) ↦{fullShare} f)
    ∗ ∃ r, prngReg c r)

/-- What is carried from point to point: nothing before the first one. -/
def inv (c : Dev nD) (n : ℕ) : sProp 𝕄 := if n = 0 then Pipeline.ΦA spec0 c else carried m c

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block (iblk m c 0 t) (iblk m c 1 t) (iblk m c 2 t)
  Φ t := inv m c t.val
  q _ := fullShare
  owed _ := 0

theorem Φ_eq (c : Dev nD) (t : Fin (cfg0.N + 1)) : (dats m 0 c).Φ t = inv m c t.val := by dsimp only [dats]

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = block (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The input's block is the same at every point. -/
theorem iblk0_eq (c : Dev nD) (t : Fin cfg0.N) : iblk m c 0 t = iblk m c 0 t0 := rfl

/-- The body's branch, point by point. -/
theorem first_iff : ∀ t : Fin cfg0.N,
    (Scalar.cmpi .ne (Scalar.extui (Scalar.cmpi .eq (BitVec.ofNat 32 ((grid0.coords t) 0).val) 0#32) : BitVec 32) 0#32 = 1#1) ↔ t.val = 0 := by
  decide

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.castSucc = inv m c t.val from Φ_eq m c _, show (dats m 0 c).Φ t.succ = inv m c (t.val + 1) from Φ_eq m c _,
    after0_0, after0_1, after0_2, after0_3]
  rw [show inv m c (t.val + 1) = carried m c from if_neg (Nat.succ_ne_zero _)]
  by_cases ht : t.val = 0
  · rw [show inv m c t.val = Pipeline.ΦA spec0 c from if_pos ht]
    unfold Pipeline.ΦA carried
    rw [scopedRest0_eq]
    iintro ⟨⟨⟨HS0, HS1, HS2⟩, Hp⟩, Ho, ⟨%d0, H0⟩, ⟨%d1, H1⟩, ⟨%d2, H2⟩, ⟨%d3, H3⟩⟩
    iapply (body_first c (grid0.coords t) _ _ _ _ _ _ _ _ _ _ _ _ _ _ (iblk m c 0 t) (iblk m c 1 t) (iblk m c 2 t) Set.univ _ ((first_iff t).mpr ht))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hp]
    · isplitl [HS0]; · iexact HS0
      isplitl [HS1]; · iexact HS1
      isplitl [HS2]; · iexact HS2
      iexact Hp
    isplitl [Ho]; · iexact Ho
    isplitl [H0]; · iexact H0
    isplitl [H1]; · iexact H1
    isplitl [H2]; · iexact H2
    iexact H3
  · rw [show inv m c t.val = carried m c from if_neg ht]
    unfold carried
    iintro ⟨⟨HS0, HS1, HS2, Hp⟩, Ho, ⟨%d0, H0⟩, ⟨%d1, H1⟩, ⟨%d2, H2⟩, ⟨%d3, H3⟩⟩
    iapply (body_later c (grid0.coords t) _ _ _ _ _ _ _ _ _ _ _ _ _ _ (iblk m c 0 t) (iblk m c 1 t) (iblk m c 2 t) Set.univ _ (fun h => ht ((first_iff t).mp h)))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hp]
    · isplitl [HS0]; · iexact HS0
      isplitl [HS1]; · iexact HS1
      isplitl [HS2]; · iexact HS2
      iexact Hp
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch buffers are forgotten. -/
theorem inv_exit (c : Dev nD) : carried m c ⊢ Pipeline.ΦA spec0 c := by
  unfold Pipeline.ΦA carried
  rw [scopedRest0_eq, owns_whole_eq, owns_whole_eq]
  iintro ⟨⟨%f0, -, H0⟩, ⟨%f1, -, H1⟩, H2, Hp⟩
  isplitl [H0 H1 H2]
  · isplitl [H0]; · iexists (f0 : Buf (Elt F) ((c : Thread nD τ).loc cc0_scratch0)); iexact H0
    isplitl [H1]; · iexists (f1 : Buf (Elt F) ((c : Thread nD τ).loc cc0_scratch1)); iexact H1
    iexact H2
  iexact Hp

/-! ## The run and the frame -/

set_option backward.isDefEq.respectTransparency.types false in
/-- The whole program ends with every array at what the blocks make of it, and every semaphore at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Pipeline.ΦA spec0 c from (Φ_eq m c 0).trans (if_pos rfl)])
    (hout := fun c => by
      rw [show (dats m 0 c).Φ (Fin.last cfg0.N) = carried m c from (Φ_eq m c _).trans (if_neg (by decide))]; exact inv_exit m c)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Bits

end
-- ==== Proof.Ideal.RunFirst.lean ====
/-
  The run of the kernel body at the first grid step: what it leaves in every buffer.
-/
module

public import proofs.«01_k».proof.Proof.Gen.KernelIdeal.Frame
public import proofs.«01_k».proof.Proof.Gen.KernelIdeal.Skeleton
public import proofs.«01_k».proof.Proof.Init

@[expose] public section

noncomputable section

namespace Cert.Proof.Ideal

open Cert.KernelIdeal Cert.KernelIdeal.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] packsRows

variable {F : FTy → Type} [FloatOps F]

local notation "𝕄" => MT nD τ sig Unit (Elt F) ℕ (UR sig nD τ) ℕ

set_option maxHeartbeats 8000000 in
/-- At the first step the body reorders the input and spells out the table of codes, then does what every step does. -/
theorem run_first (c : Dev nD) (i : grid0.Coords)
    (hi : Scalar.cmpi .ne (Scalar.extui (Scalar.cmpi .eq (BitVec.ofNat 32 (i 0).val) 0#32) : BitVec 32) 0#32 = 1#1)
    (arg1 : Memref sig .tc .vmem S128x5632 .bf16) (harg1 : arg1.IsWhole) (arg2 : Memref sig .tc .vmem S512x2816 .i8) (harg2 : arg2.IsWhole)
    (arg3 : Memref sig .tc .vmem S512x88 .f32) (harg3 : arg3.IsWhole) (arg4 : Memref sig .tc .vmem S128x512 .bf16) (harg4 : arg4.IsWhole)
    (arg5 : Memref sig .tc .vmem S128x5632 .bf16) (harg5 : arg5.IsWhole) (arg6 : Memref sig .tc .vmem S32x128 .f32) (harg6 : arg6.IsWhole)
    (arg7 : Memref sig .tc .vmem S4x352x128 .f32) (harg7 : arg7.IsWhole)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (E : Set ℕ) (Q : PUnit → sProp 𝕄) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7)
        ∗ (iprop(∃ g4 g5 g6 g7, ⌜arg5.view.read (Elt F) g5 = View.canon (xPieces (arg1.view.read (Elt F) f1) 22 le_rfl)
              ∧ arg6.view.read (Elt F) g6 = View.canon [⟨Rect.unit (s := S32x128) ![0, 0] S32x128.size inb_S32x128_S32x128_0_0,
                  shapeCast S32x128 codeTable shapeCasts_S32x128_S32x128⟩]
              ∧ arg7.view.read (Elt F) g7 = arg7.view.read (Elt F) (arg7.view.writes (Elt F) f7 (atPieces (arg3.view.read (Elt F) f3) 16 le_rfl))
              ∧ arg4.view.read (Elt F) g4 = View.canon (outPieces (arg5.view.read (Elt F) g5) (arg6.view.read (Elt F) g6) (arg7.view.read (Elt F) g7) (arg2.view.read (Elt F) f2) (permuted (arg1.view.read (Elt F) f1) 22 le_rfl))⌝
            ∗ (arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} g4) ∗ (arg5.view.loc (c : Thread nD τ) ↦{fullShare} g5) ∗ (arg6.view.loc (c : Thread nD τ) ↦{fullShare} g6) ∗ (arg7.view.loc (c : Thread nD τ) ↦{fullShare} g7)) -∗ Q ⟨⟩))
      ⊢ wp frame (wpE (defs₀ (F := F)) Variants.none c none) E
          (cc0_nf4_linear i arg1 harg1 arg2 harg2 arg3 harg3 arg4 harg4 arg5 harg5 arg6 harg6 arg7 harg7) Q := by
  simp only [cc0_nf4_linear_eq_skeleton]; unfold cc0_nf4_linear_skel
  iintro ⟨H1, H2, H3, H4, H5, H6, H7, Hk⟩
  sl_exec_parts!
  sl_step
  iapply Hk
  iexists _; iexists _; iexists _; iexists _
  isplitr; swap
  · isplitl [H1]; · iexact H1
    isplitl [H2]; · iexact H2
    isplitl [H3]; · iexact H3
    isplitl [H4]; · iexact H4
    isplitl [H5]; · iexact H5
    isplitl [H6]; · iexact H6
    iexact H7
  ipureintro
  refine ⟨(View.read_writes_junk_eq_canon _ _).trans ?_, (View.read_writes_junk_eq_canon _ _).trans ?_, rfl,
    (View.read_writes_junk_eq_canon _ _).trans ?_⟩
  · exact congrArg View.canon rfl
  · exact congrArg View.canon rfl
  · exact congrArg View.canon rfl

end Cert.Proof.Ideal

end
-- ==== Proof.Ideal.RunLater.lean ====
/-
  The run of the kernel body at a later grid step: what it leaves in every buffer.
-/
module

public import proofs.«01_k».proof.Proof.Gen.KernelIdeal.Frame
public import proofs.«01_k».proof.Proof.Gen.KernelIdeal.Skeleton
public import proofs.«01_k».proof.Proof.Init

@[expose] public section

noncomputable section

namespace Cert.Proof.Ideal

open Cert.KernelIdeal Cert.KernelIdeal.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] packsRows

variable {F : FTy → Type} [FloatOps F]

local notation "𝕄" => MT nD τ sig Unit (Elt F) ℕ (UR sig nD τ) ℕ

set_option maxHeartbeats 8000000 in
/-- At a later step the reordered input and the table of codes are read as the first step left them. -/
theorem run_later (c : Dev nD) (i : grid0.Coords)
    (hi : ¬ Scalar.cmpi .ne (Scalar.extui (Scalar.cmpi .eq (BitVec.ofNat 32 (i 0).val) 0#32) : BitVec 32) 0#32 = 1#1)
    (arg1 : Memref sig .tc .vmem S128x5632 .bf16) (harg1 : arg1.IsWhole) (arg2 : Memref sig .tc .vmem S512x2816 .i8) (harg2 : arg2.IsWhole)
    (arg3 : Memref sig .tc .vmem S512x88 .f32) (harg3 : arg3.IsWhole) (arg4 : Memref sig .tc .vmem S128x512 .bf16) (harg4 : arg4.IsWhole)
    (arg5 : Memref sig .tc .vmem S128x5632 .bf16) (harg5 : arg5.IsWhole) (arg6 : Memref sig .tc .vmem S32x128 .f32) (harg6 : arg6.IsWhole)
    (arg7 : Memref sig .tc .vmem S4x352x128 .f32) (harg7 : arg7.IsWhole)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (E : Set ℕ) (Q : PUnit → sProp 𝕄) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7)
        ∗ (iprop(∃ g4 g7, ⌜arg7.view.read (Elt F) g7 = arg7.view.read (Elt F) (arg7.view.writes (Elt F) f7 (atPieces (arg3.view.read (Elt F) f3) 16 le_rfl))
              ∧ arg4.view.read (Elt F) g4 = View.canon (outPieces (arg5.view.read (Elt F) f5) (arg6.view.read (Elt F) f6) (arg7.view.read (Elt F) g7) (arg2.view.read (Elt F) f2) Mxu.init)⌝
            ∗ (arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} g4) ∗ (arg5.view.loc (c : Thread nD τ) ↦{fullShare} f5) ∗ (arg6.view.loc (c : Thread nD τ) ↦{fullShare} f6) ∗ (arg7.view.loc (c : Thread nD τ) ↦{fullShare} g7)) -∗ Q ⟨⟩))
      ⊢ wp frame (wpE (defs₀ (F := F)) Variants.none c none) E
          (cc0_nf4_linear i arg1 harg1 arg2 harg2 arg3 harg3 arg4 harg4 arg5 harg5 arg6 harg6 arg7 harg7) Q := by
  simp only [cc0_nf4_linear_eq_skeleton]; unfold cc0_nf4_linear_skel
  iintro ⟨H1, H2, H3, H4, H5, H6, H7, Hk⟩
  sl_exec_parts!
  sl_step
  iapply Hk
  iexists _; iexists _
  isplitr; swap
  · isplitl [H1]; · iexact H1
    isplitl [H2]; · iexact H2
    isplitl [H3]; · iexact H3
    isplitl [H4]; · iexact H4
    isplitl [H5]; · iexact H5
    isplitl [H6]; · iexact H6
    iexact H7
  ipureintro
  refine ⟨rfl, (View.read_writes_junk_eq_canon _ _).trans ?_⟩
  exact congrArg View.canon rfl

end Cert.Proof.Ideal

end
-- ==== Proof.Ideal.Body.lean ====
/-
  The kernel body between contents: from the blocks of the input, the packed bytes and the scales it leaves the block of
  the output at `Spec.block`, and its scratch buffers at the reordered input and the table of codes.
-/
module

public import proofs.«01_k».proof.Proof.Chain
public import proofs.«01_k».proof.Proof.Ideal.RunFirst
public import proofs.«01_k».proof.Proof.Ideal.RunLater

@[expose] public section

noncomputable section

namespace Cert.Proof.Ideal

open Cert.KernelIdeal Cert.KernelIdeal.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] packsRows

variable {F : FTy → Type} [FloatOps F]

local notation "𝕄" => MT nD τ sig Unit (Elt F) ℕ (UR sig nD τ) ℕ

/-! ## The body between contents -/

section Body
variable (c : Dev nD) (i : grid0.Coords)
    (arg1 : Memref sig .tc .vmem S128x5632 .bf16) (harg1 : arg1.IsWhole) (arg2 : Memref sig .tc .vmem S512x2816 .i8) (harg2 : arg2.IsWhole)
    (arg3 : Memref sig .tc .vmem S512x88 .f32) (harg3 : arg3.IsWhole) (arg4 : Memref sig .tc .vmem S128x512 .bf16) (harg4 : arg4.IsWhole)
    (arg5 : Memref sig .tc .vmem S128x5632 .bf16) (harg5 : arg5.IsWhole) (arg6 : Memref sig .tc .vmem S32x128 .f32) (harg6 : arg6.IsWhole)
    (arg7 : Memref sig .tc .vmem S4x352x128 .f32) (harg7 : arg7.IsWhole)
    (x : Vec F S128x5632 .bf16) (w : Vec F S512x2816 .i8) (a : Vec F S512x88 .f32)

/-- The first step: the scratch buffers hold anything before it. -/
theorem body_first (E : Set ℕ) (K : PUnit → sProp 𝕄) (hi : Scalar.cmpi .ne (Scalar.extui (Scalar.cmpi .eq (BitVec.ofNat 32 (i 0).val) 0#32) : BitVec 32) 0#32 = 1#1) :
    iprop(owns (c : Thread nD τ) arg1 fullShare x ∗ owns (c : Thread nD τ) arg2 fullShare w ∗ owns (c : Thread nD τ) arg3 fullShare a
        ∗ (∃ d, owns (c : Thread nD τ) arg4 fullShare d)
        ∗ (∃ f, (arg5.view.loc (c : Thread nD τ) ↦{fullShare} f)) ∗ (∃ f, (arg6.view.loc (c : Thread nD τ) ↦{fullShare} f))
        ∗ (∃ f, (arg7.view.loc (c : Thread nD τ) ↦{fullShare} f))
        ∗ (iprop(owns (c : Thread nD τ) arg1 fullShare x ∗ owns (c : Thread nD τ) arg2 fullShare w ∗ owns (c : Thread nD τ) arg3 fullShare a
            ∗ owns (c : Thread nD τ) arg4 fullShare (block x w a)
            ∗ owns (c : Thread nD τ) arg5 fullShare (reordered x) ∗ owns (c : Thread nD τ) arg6 fullShare values
            ∗ (∃ f, (arg7.view.loc (c : Thread nD τ) ↦{fullShare} f))) -∗ K ⟨⟩))
      ⊢ wp frame (wpE (defs₀ (F := F)) Variants.none c none) E
          (cc0_nf4_linear i arg1 harg1 arg2 harg2 arg3 harg3 arg4 harg4 arg5 harg5 arg6 harg6 arg7 harg7) K := by
  unfold owns
  rw [harg1.set_eq_univ, harg2.set_eq_univ, harg3.set_eq_univ, harg4.set_eq_univ, harg5.set_eq_univ, harg6.set_eq_univ]
  iintro ⟨⟨%f1, %hf1, H1⟩, ⟨%f2, %hf2, H2⟩, ⟨%f3, %hf3, H3⟩, ⟨%d4, %f4, -, H4⟩, ⟨%f5, H5⟩, ⟨%f6, H6⟩, ⟨%f7, H7⟩, Hk⟩
  subst hf1 hf2 hf3
  iapply (run_first c i hi arg1 harg1 arg2 harg2 arg3 harg3 arg4 harg4 arg5 harg5 arg6 harg6 arg7 harg7 f1 f2 f3 f4 f5 f6 f7 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨%g4, %g5, %g6, %g7, %hg, H1, H2, H3, H4, H5, H6, H7⟩
  obtain ⟨h5, h6, h7, h4⟩ := hg
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists g4; isplitr
    · ipureintro
      rw [h4, h5, h6, h7, View.read_writes_eq_canon _ _ _ (cover_atPieces _), outPieces_clean _ _ _ _ _ (clean_permuted _)]; rfl
    iexact H4
  isplitl [H5]
  · iexists g5; isplitr; · ipureintro; exact h5
    iexact H5
  isplitl [H6]
  · iexists g6; isplitr; · ipureintro; exact h6
    iexact H6
  iexists g7; iexact H7

/-- A later step finds the reordered input and the table of codes. -/
theorem body_later (E : Set ℕ) (K : PUnit → sProp 𝕄) (hi : ¬ Scalar.cmpi .ne (Scalar.extui (Scalar.cmpi .eq (BitVec.ofNat 32 (i 0).val) 0#32) : BitVec 32) 0#32 = 1#1) :
    iprop(owns (c : Thread nD τ) arg1 fullShare x ∗ owns (c : Thread nD τ) arg2 fullShare w ∗ owns (c : Thread nD τ) arg3 fullShare a
        ∗ (∃ d, owns (c : Thread nD τ) arg4 fullShare d)
        ∗ owns (c : Thread nD τ) arg5 fullShare (reordered x) ∗ owns (c : Thread nD τ) arg6 fullShare values
        ∗ (∃ f, (arg7.view.loc (c : Thread nD τ) ↦{fullShare} f))
        ∗ (iprop(owns (c : Thread nD τ) arg1 fullShare x ∗ owns (c : Thread nD τ) arg2 fullShare w ∗ owns (c : Thread nD τ) arg3 fullShare a
            ∗ owns (c : Thread nD τ) arg4 fullShare (block x w a)
            ∗ owns (c : Thread nD τ) arg5 fullShare (reordered x) ∗ owns (c : Thread nD τ) arg6 fullShare values
            ∗ (∃ f, (arg7.view.loc (c : Thread nD τ) ↦{fullShare} f))) -∗ K ⟨⟩))
      ⊢ wp frame (wpE (defs₀ (F := F)) Variants.none c none) E
          (cc0_nf4_linear i arg1 harg1 arg2 harg2 arg3 harg3 arg4 harg4 arg5 harg5 arg6 harg6 arg7 harg7) K := by
  unfold owns
  rw [harg1.set_eq_univ, harg2.set_eq_univ, harg3.set_eq_univ, harg4.set_eq_univ, harg5.set_eq_univ, harg6.set_eq_univ]
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, H7⟩, Hk⟩
  subst hf1 hf2 hf3
  iapply (run_later c i hi arg1 harg1 arg2 harg2 arg3 harg3 arg4 harg4 arg5 harg5 arg6 harg6 arg7 harg7 f1 f2 f3 f4 f5 f6 f7 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨%g4, %g7, %hg, H1, H2, H3, H4, H5, H6, H7⟩
  obtain ⟨h7, h4⟩ := hg
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists g4; isplitr
    · ipureintro
      rw [h4, hf5, hf6, h7, View.read_writes_eq_canon _ _ _ (cover_atPieces _)]; rfl
    iexact H4
  isplitl [H5]
  · iexists f5; isplitr; · ipureintro; exact hf5
    iexact H5
  isplitl [H6]
  · iexists f6; isplitr; · ipureintro; exact hf6
    iexact H6
  iexists g7; iexact H7

end Body

end Cert.Proof.Ideal

end
-- ==== Proof.Ideal.Frame.lean ====
/-
  The run of the whole program. Every step leaves its block of the output at `Spec.block` of the blocks it reads; the
  reordered input and the table of codes, made at the first step, are carried to the later ones in scratch buffers.
-/
module

public import proofs.«01_k».proof.Proof.Ideal.Body

@[expose] public section

noncomputable section

namespace Cert.Proof.Ideal

open Cert.KernelIdeal Cert.KernelIdeal.Gen Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] packsRows

variable {F : FTy → Type} [FloatOps F]

local notation "𝕄" => MT nD τ sig Unit (Elt F) ℕ (UR sig nD τ) ℕ

/-! ## The pipeline's proof data -/

variable (m : (ℓ : Loc nD τ sig) → Buf (Elt F) ℓ) (ρ : Dev nD → PrngReg)

/-- The first point. -/
abbrev t0 : Fin cfg0.N := ⟨0, by decide⟩

/-- The scratch buffers after the first point. -/
def carried (c : Dev nD) : sProp 𝕄 :=
  iprop(owns (c : Thread nD τ) (Memref.whole cc0_scratch0 : Memref sig .tc .vmem S128x5632 .bf16) fullShare (reordered (iblk m c 0 t0))
    ∗ owns (c : Thread nD τ) (Memref.whole cc0_scratch1 : Memref sig .tc .vmem S32x128 .f32) fullShare values
    ∗ (∃ f : Buf (Elt F) ((c : Thread nD τ).loc cc0_scratch2), ((c : Thread nD τ).loc cc0_scratch2) ↦{fullShare} f)
    ∗ ∃ r, prngReg c r)

/-- What is carried from point to point: nothing before the first one. -/
def inv (c : Dev nD) (n : ℕ) : sProp 𝕄 := if n = 0 then Pipeline.ΦA spec0 c else carried m c

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block (iblk m c 0 t) (iblk m c 1 t) (iblk m c 2 t)
  Φ t := inv m c t.val
  q _ := fullShare
  owed _ := 0

theorem Φ_eq (c : Dev nD) (t : Fin (cfg0.N + 1)) : (dats m 0 c).Φ t = inv m c t.val := by dsimp only [dats]

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = block (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The input's block is the same at every point. -/
theorem iblk0_eq (c : Dev nD) (t : Fin cfg0.N) : iblk m c 0 t = iblk m c 0 t0 := rfl

/-- The body's branch, point by point. -/
theorem first_iff : ∀ t : Fin cfg0.N,
    (Scalar.cmpi .ne (Scalar.extui (Scalar.cmpi .eq (BitVec.ofNat 32 ((grid0.coords t) 0).val) 0#32) : BitVec 32) 0#32 = 1#1) ↔ t.val = 0 := by
  decide

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.castSucc = inv m c t.val from Φ_eq m c _, show (dats m 0 c).Φ t.succ = inv m c (t.val + 1) from Φ_eq m c _,
    after0_0, after0_1, after0_2, after0_3]
  rw [show inv m c (t.val + 1) = carried m c from if_neg (Nat.succ_ne_zero _)]
  by_cases ht : t.val = 0
  · rw [show inv m c t.val = Pipeline.ΦA spec0 c from if_pos ht]
    unfold Pipeline.ΦA carried
    rw [scopedRest0_eq]
    iintro ⟨⟨⟨HS0, HS1, HS2⟩, Hp⟩, Ho, ⟨%d0, H0⟩, ⟨%d1, H1⟩, ⟨%d2, H2⟩, ⟨%d3, H3⟩⟩
    iapply (body_first c (grid0.coords t) _ _ _ _ _ _ _ _ _ _ _ _ _ _ (iblk m c 0 t) (iblk m c 1 t) (iblk m c 2 t) Set.univ _ ((first_iff t).mpr ht))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hp]
    · isplitl [HS0]; · iexact HS0
      isplitl [HS1]; · iexact HS1
      isplitl [HS2]; · iexact HS2
      iexact Hp
    isplitl [Ho]; · iexact Ho
    isplitl [H0]; · iexact H0
    isplitl [H1]; · iexact H1
    isplitl [H2]; · iexact H2
    iexact H3
  · rw [show inv m c t.val = carried m c from if_neg ht]
    unfold carried
    iintro ⟨⟨HS0, HS1, HS2, Hp⟩, Ho, ⟨%d0, H0⟩, ⟨%d1, H1⟩, ⟨%d2, H2⟩, ⟨%d3, H3⟩⟩
    iapply (body_later c (grid0.coords t) _ _ _ _ _ _ _ _ _ _ _ _ _ _ (iblk m c 0 t) (iblk m c 1 t) (iblk m c 2 t) Set.univ _ (fun h => ht ((first_iff t).mp h)))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hp]
    · isplitl [HS0]; · iexact HS0
      isplitl [HS1]; · iexact HS1
      isplitl [HS2]; · iexact HS2
      iexact Hp
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch buffers are forgotten. -/
theorem inv_exit (c : Dev nD) : carried m c ⊢ Pipeline.ΦA spec0 c := by
  unfold Pipeline.ΦA carried
  rw [scopedRest0_eq, owns_whole_eq, owns_whole_eq]
  iintro ⟨⟨%f0, -, H0⟩, ⟨%f1, -, H1⟩, H2, Hp⟩
  isplitl [H0 H1 H2]
  · isplitl [H0]; · iexists (f0 : Buf (Elt F) ((c : Thread nD τ).loc cc0_scratch0)); iexact H0
    isplitl [H1]; · iexists (f1 : Buf (Elt F) ((c : Thread nD τ).loc cc0_scratch1)); iexact H1
    iexact H2
  iexact Hp

/-! ## The run and the frame -/

set_option backward.isDefEq.respectTransparency.types false in
/-- The whole program ends with every array at what the blocks make of it, and every semaphore at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Pipeline.ΦA spec0 c from (Φ_eq m c 0).trans (if_pos rfl)])
    (hout := fun c => by
      rw [show (dats m 0 c).Φ (Fin.last cfg0.N) = carried m c from (Φ_eq m c _).trans (if_neg (by decide))]; exact inv_exit m c)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Ideal

end
-- ==== Proof.Reference.lean ====
/-
  The reference's run: it ends, leaves its arguments unchanged, and its result is `result` of them, for any float type `F`.
-/
module

public import proofs.«01_k».proof.Proof.Gen.ReferenceIdeal
public import Idealize.ShloMosaic.Lib.Claim
public import Idealize.ShloMosaic.Lib.StableHlo.RunRead
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- Whether one bit of every packed byte is set. -/
def bit (w : IVec S15360x2816 8) (k : BitVec 32) : IVec S15360x2816 1 :=
  cmpi .ne (andi (extui 32 w natLt_8_32) (broadcastInDim S15360x2816 ![] bcast_S_S15360x2816 (constantI S_ 32 k)))
    (broadcastInDim S15360x2816 ![] bcast_S_S15360x2816 (constantI S_ 32 0#32))

/-- One of two values, by a bit. -/
def leaf (b : IVec S15360x2816 1) (one zero : BitVec 32) : FVec F S15360x2816 .f32 :=
  select b (broadcastInDim S15360x2816 ![] bcast_S_S15360x2816 (constant S_ .f32 one))
    (broadcastInDim S15360x2816 ![] bcast_S_S15360x2816 (constant S_ .f32 zero))

/-- The table's value at the code that four bits spell, bit `b0` the lowest. -/
def value (b0 b1 b2 b3 : IVec S15360x2816 1) : FVec F S15360x2816 .f32 :=
  select b3
    (select b2 (select b1 (leaf b0 0x3F800000#32 0x3F3913B3#32) (leaf b0 0x3F1007AB#32 0x3EE1A4B8#32))
      (select b1 (leaf b0 0x3EAD033A#32 0x3E7C04DD#32) (leaf b0 0x3E24CAE3#32 0x3DA2FAFF#32)))
    (select b2 (select b1 (leaf b0 0x00000000#32 0xBDBA7871#32) (leaf b0 0xBE3D353F#32 0xBE91A24D#32))
      (select b1 (leaf b0 0xBECA32A0#32 0xBF066B30#32) (leaf b0 0xBF3239B1#32 0xBF800000#32)))

/-- Values times the scales of their blocks, rounded. -/
def scaled (v : FVec F S15360x2816 .f32) (a : FVec F S15360x88 .f32) : FVec F S15360x2816 .bf16 :=
  truncf .bf16 (shapeCast S15360x2816 (mulf (shapeCast S15360x88x32 v shapeCasts_S15360x2816_S15360x88x32)
      (broadcastInDim S15360x88x32 ![0, 1, 2] bcast_S15360x88x1_S15360x88x32_0_1_2
        (broadcastInDim S15360x88x1 ![0, 1] bcast_S15360x88_S15360x88x1_0_1 a)) : FVec F S15360x88x32 .f32)
    shapeCasts_S15360x88x32_S15360x2816 : FVec F S15360x2816 .f32) bitsLt_bf16_f32

/-- The weights of the even positions of the input, -/
def lower (w : IVec S15360x2816 8) (a : FVec F S15360x88 .f32) : FVec F S15360x2816 .bf16 :=
  scaled (value (bit w 1#32) (bit w 2#32) (bit w 4#32) (bit w 8#32)) a
/-- and of the odd ones. -/
def upper (w : IVec S15360x2816 8) (a : FVec F S15360x88 .f32) : FVec F S15360x2816 .bf16 :=
  scaled (value (bit w 16#32) (bit w 32#32) (bit w 64#32) (bit w 128#32)) a

/-- The even positions of the input, -/
def evenX (x : FVec F S128x1x5632 .bf16) : FVec F S128x1x2816 .bf16 :=
  shapeCast S128x1x2816 (extractStridedSlice S128x1x2816x1 ![0, 0, 0, 0]
    (shapeCast S128x1x2816x2 x shapeCasts_S128x1x5632_S128x1x2816x2) slices_S128x1x2816x2_S128x1x2816x1_0_0_0_0)
    shapeCasts_S128x1x2816x1_S128x1x2816
/-- and the odd ones. -/
def oddX (x : FVec F S128x1x5632 .bf16) : FVec F S128x1x2816 .bf16 :=
  shapeCast S128x1x2816 (extractStridedSlice S128x1x2816x1 ![0, 0, 0, 1]
    (shapeCast S128x1x2816x2 x shapeCasts_S128x1x5632_S128x1x2816x2) slices_S128x1x2816x2_S128x1x2816x1_0_0_0_1)
    shapeCasts_S128x1x2816x1_S128x1x2816

/-- The reference's result. -/
def result (x : FVec F S128x1x5632 .bf16) (w : IVec S15360x2816 8) (a : FVec F S15360x88 .f32) : FVec F S128x1x15360 .bf16 :=
  truncf .bf16 (addf
    (Host.dotGeneral dot_S128x1x2816_S15360x2816_S128x1x15360_2_1_01_0_n_n none (evenX x) (lower w a))
    (Host.dotGeneral dot_S128x1x2816_S15360x2816_S128x1x15360_2_1_01_0_n_n none (oddX x) (upper w a)) : FVec F S128x1x15360 .f32)
    bitsLt_bf16_f32

variable (m : (ℓ : Loc nD τ sig) → Buf (Elt F) ℓ) (g : Dev nD → PrngReg)

set_option maxHeartbeats 8000000 in
/-- The result. -/
theorem run : θ_run (defs (F := F)) (onTc (τ := τ) (main (F := F))) ⟨m, fun _ => 0, g⟩ (fun r => ∀ c : Dev nD,
      r.2.mem ((c.tc : Thread nD τ).loc main_v83)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  rfl

/-- The arguments end unchanged and every semaphore at zero. -/
theorem frame : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m g) fun r h => ⟨fun c => (h c).2, sem_eq_zero_of_no_sems (by decide) r.2⟩

end Cert.Proof.Reference

end
-- ==== Proof.Values.Table.lean ====
/-
  The scaled tables of a block, at an index, over the extended reals: the row of code `n` holds the code's value times
  the scale of the block.
-/
module

public import proofs.«01_k».proof.Proof.Spec
public import proofs.«01_k».proof.Proof.Init
public import Idealize.ShloMosaic.Lib.Pointwise

@[expose] public section

noncomputable section

namespace Cert.Proof.Values

open Cert.KernelIdeal Cert.KernelIdeal.Gen Cert.Proof.Spec
open Idealize.ShloMosaic

attribute [local instance] packsRows

/-- The value of a code. -/
def val (n : ℕ) : EReal := Ideal.ofBits .f32 (nf4.getD n (0, 0)).2

/-- The value picked at a code, one code after another. -/
def pick (c : BitVec 32) : EReal :=
  nf4.foldl (fun t p => Scalar.select (Scalar.cmpi .eq c p.1) (Ideal.ofBits .f32 p.2) t) (Ideal.ofBits .f32 0x00000000#32)

theorem codeTable_pick (i : S32x128.Idx) : (codeTable : FVec Ideal S32x128 .f32) i = pick (codeOf i) := rfl

theorem codeOf_apply (r : Fin 32) (l : Fin 128) : codeOf (ix2 r l) = BitVec.ofNat 32 (4 * (r.val % 4) + r.val / 8) := by
  have h : ∀ r : Fin 32, IntOp.ori (IntOp.shli ArithUnit.vector (IntOp.andi (BitVec.ofNat 32 r.val) 3#32) 2#32)
      (IntOp.shrsi ArithUnit.vector (BitVec.ofNat 32 r.val) 3#32)
      = BitVec.ofNat 32 (4 * (r.val % 4) + r.val / 8) := by decide
  rw [← h r]
  pointwise [codeOf]

theorem pick_eq (n : ℕ) (h : n < 16) : pick (BitVec.ofNat 32 n) = val n := by
  interval_cases n <;> simp [pick, val, nf4, Scalar.select, Scalar.cmpi, IntOp.cmpi]

theorem codeTable_apply (r : Fin 32) (l : Fin 128) :
    (codeTable : FVec Ideal S32x128 .f32) (ix2 r l) = val (4 * (r.val % 4) + r.val / 8) := by
  rw [codeTable_pick, codeOf_apply, pick_eq _ (by omega)]

theorem rows_apply (p : Fin 4 → FVec Ideal S8x128 .f32) (r : Fin 32) (l : Fin 128) :
    (packsRows (F := Ideal)).rows p (ix2 r l)
      = p ⟨2 * (r.val % 2) + r.val / 16, by omega⟩ (ix2 (⟨r.val % 16 / 2, by omega⟩ : Fin 8) l) := by
  have e (a b : Fin 4) (c d : Fin 8) (h : a.val = b.val) (h' : c.val = d.val) : p a (ix2 c l) = p b (ix2 d l) := by
    rw [Fin.ext h, Fin.ext h']
  change interleaveRows S32x128
    (concatenate S16x128 0 [⟨S8x128, (truncf .bf16 (p 0) bitsLt_bf16_f32 : FVec Ideal S8x128 .bf16)⟩,
      ⟨S8x128, (truncf .bf16 (p 1) bitsLt_bf16_f32 : FVec Ideal S8x128 .bf16)⟩] concatenates_S8x128_S8x128_S16x128_d0)
    (concatenate S16x128 0 [⟨S8x128, (truncf .bf16 (p 2) bitsLt_bf16_f32 : FVec Ideal S8x128 .bf16)⟩,
      ⟨S8x128, (truncf .bf16 (p 3) bitsLt_bf16_f32 : FVec Ideal S8x128 .bf16)⟩] concatenates_S8x128_S8x128_S16x128_d0)
    bitcasts_S32x128_w16_S16x128_w32 (ix2 r l) = _
  pointwise []
  split_ifs
  all_goals refine e _ _ _ _ ?_ ?_ <;> simp <;> omega

theorem table_apply (code : Vec Ideal S32x128 .f32) (sc : Vec Ideal S1x8x128 .f32) (R : Fin 32) (l : Fin 128) :
    table code sc (ix2 R l)
      = (code (ix2 (⟨8 * (R.val % 4) + R.val / 4, by omega⟩ : Fin 32) l) : EReal)
        * sc (ix3 (0 : Fin 1) (⟨R.val / 4, by omega⟩ : Fin 8) l) := by
  have e (a b : Fin 32) (c d : Fin 8) (h : a.val = b.val) (h' : c.val = d.val) :
      (code (ix2 a l) : EReal) * sc (ix3 (0 : Fin 1) c l) = code (ix2 b l) * sc (ix3 (0 : Fin 1) d l) := by
    rw [Fin.ext h, Fin.ext h']
  pointwise [table, View.ld, rC]
  split_ifs <;> rw [rows_apply] <;> pointwise [View.ld]
  all_goals refine e _ _ _ _ ?_ ?_ <;> dsimp only <;> omega

end Cert.Proof.Values

end
-- ==== Proof.Values.Codes.lean ====
/-
  The codes of a block: the rows that the kernel gathers at the packed bytes are those of the bytes' four-bit codes.
-/
module

public import proofs.«01_k».proof.Proof.Spec
public import Idealize.ShloMosaic.Lib.Pointwise
public import Idealize.ShloMosaic.Lib.BitcastFour

@[expose] public section

noncomputable section

namespace Cert.Proof.Values

open Cert.KernelIdeal Cert.KernelIdeal.Gen Cert.Proof.Spec
open Idealize.ShloMosaic

/-- Nibble `k` of a byte, `0` the low one. -/
def nib (k : ℕ) (b : BitVec 8) : BitVec 4 := b.extractLsb' (4 * k) 4

/-- Words that hold, in the low half of every byte, nibble `k` of the block's bytes. -/
def Holds (k : ℕ) (w : IVec S8x128 32) (v : IVec S32x128 8) : Prop :=
  ∀ (a : Fin 8) (l : Fin 128) (q : ℕ) (hq : q < 32), q % 8 < 4 →
    (w (ix2 a l)).getLsbD q = (v (ix2 (⟨4 * a.val + q / 8, by omega⟩ : Fin 32) l)).getLsbD (q % 8 + 4 * k)

/-- The bytes read as words hold the low nibbles, -/
theorem holds_low (v : IVec S32x128 8) : Holds 0 (bitcast S8x128 32 v bitcasts_S32x128_w8_S8x128_w32) v := by
  intro a l q hq _
  exact bitcast_8_32_getLsbD_ix2 v bitcasts_S32x128_w8_S8x128_w32 a l q hq _ rfl

/-- and moved down four bits the high ones. -/
theorem holds_high (w : IVec S8x128 32) (v : IVec S32x128 8)
    (hw : w = bitcast S8x128 32 v bitcasts_S32x128_w8_S8x128_w32) : Holds 1 (high w) v := by
  intro a l q hq h4
  have e : (high w) (ix2 a l) = (w (ix2 a l)).sshiftRight 4 := rfl
  have hlt : 4 + q < 32 := by omega
  have hb : (w (ix2 a l)).getLsbD (4 + q) = (v (ix2 (⟨4 * a.val + q / 8, by omega⟩ : Fin 32) l)).getLsbD ((4 + q) % 8) := by
    rw [hw]
    exact bitcast_8_32_getLsbD_ix2 v bitcasts_S32x128_w8_S8x128_w32 a l (4 + q) hlt _ (by simp only []; omega)
  rw [e, BitVec.getLsbD_sshiftRight, if_pos hlt, hb, show (4 + q) % 8 = q % 8 + 4 * 1 by omega,
    decide_eq_false (by omega : ¬ 32 ≤ q), Bool.not_false, Bool.true_and]

/-- The two codes of an element of sixteen bits. -/
theorem half_word (k : ℕ) (hk : k < 2) (w : IVec S8x128 32) (v : IVec S32x128 8) (h : Holds k w v) (s : Fin 16) (l : Fin 128) :
    bitcast S16x128 16 (andi w (broadcast S8x128 252645135#32)) bitcasts_S8x128_w32_S16x128_w16 (ix2 s l)
      = (0#4 ++ nib k (v (ix2 (⟨2 * s.val + 1, by omega⟩ : Fin 32) l)))
        ++ (0#4 ++ nib k (v (ix2 (⟨2 * s.val, by omega⟩ : Fin 32) l))) := by
  apply BitVec.eq_of_getLsbD_eq
  intro q hq
  have e (j : S8x128.Idx) (n : ℕ) : (andi w (broadcast S8x128 252645135#32) j).getLsbD n
      = ((w j).getLsbD n && (252645135#32).getLsbD n) := BitVec.getLsbD_and
  have ei : bitcasts_S8x128_w32_S16x128_w16.srcIdx (ix2 s l) ((S16x128.row (ix2 s l) * 16 + q) / 32) (fun a ha =>
      (Nat.div_lt_iff_lt_mul (by decide)).2 (bitcasts_S8x128_w32_S16x128_w16.pos_lt (ix2 s l) q hq a ha))
      = ix2 (⟨s.val / 2, by omega⟩ : Fin 8) l := by
    funext c
    match c with
    | ⟨0, _⟩ =>
      refine Fin.ext ((bitcasts_S8x128_w32_S16x128_w16.srcIdx_row _ _ _ ⟨0, Nat.zero_lt_two⟩ rfl).trans ?_)
      show (s.val * 16 + q) / 32 = s.val / 2
      omega
    | ⟨1, _⟩ => exact Fin.ext (bitcasts_S8x128_w32_S16x128_w16.srcIdx_other _ _ _ ⟨1, Nat.one_lt_two⟩ (by show ¬ 1 + 2 = 2; omega))
  rw [bitcast_getLsbD _ bitcasts_S8x128_w32_S16x128_w16 _ q hq (by decide), ei, e]
  have er : (S16x128.row (ix2 s l) * 16 + q) % 32 = 16 * (s.val % 2) + q := by
    show (s.val * 16 + q) % 32 = _
    omega
  have hb (a b : Fin 32) (m n : ℕ) (hab : a.val = b.val) (hmn : m = n) :
      (v (ix2 a l)).getLsbD m = (v (ix2 b l)).getLsbD n := by rw [Fin.ext hab, hmn]
  rw [er]
  by_cases h4 : q % 8 < 4
  · rw [h _ _ _ (by omega) (by omega)]
    have em : (252645135#32).getLsbD (16 * (s.val % 2) + q) = true := by
      have : ∀ a : Fin 2, ∀ q : Fin 16, q.val % 8 < 4 → (252645135#32).getLsbD (16 * a.val + q.val) = true := by decide
      exact this ⟨s.val % 2, by omega⟩ ⟨q, hq⟩ h4
    rw [em, Bool.and_true, BitVec.getLsbD_append]
    by_cases h8 : q < 8
    · rw [if_pos h8, BitVec.getLsbD_append, if_pos (by omega), nib, BitVec.getLsbD_extractLsb',
        decide_eq_true (by omega : q < 4), Bool.true_and]
      exact hb _ _ _ _ (by simp only []; omega) (by omega)
    · rw [if_neg h8, BitVec.getLsbD_append, if_pos (by omega), nib, BitVec.getLsbD_extractLsb',
        decide_eq_true (by omega : q - 8 < 4), Bool.true_and]
      exact hb _ _ _ _ (by simp only []; omega) (by omega)
  · have em : (252645135#32).getLsbD (16 * (s.val % 2) + q) = false := by
      have : ∀ a : Fin 2, ∀ q : Fin 16, ¬ q.val % 8 < 4 → (252645135#32).getLsbD (16 * a.val + q.val) = false := by decide
      exact this ⟨s.val % 2, by omega⟩ ⟨q, hq⟩ h4
    rw [em, Bool.and_false, BitVec.getLsbD_append]
    by_cases h8 : q < 8
    · rw [if_pos h8, BitVec.getLsbD_append, if_neg (by omega)]; simp
    · rw [if_neg h8, BitVec.getLsbD_append, if_neg (by omega)]; simp

theorem low_code : ∀ p q : BitVec 4, (IntOp.andi (BitVec.signExtend 32 ((0#4 ++ p) ++ (0#4 ++ q))) 255#32).toNat % 16 = q.toNat := by
  decide +kernel

theorem high_code : ∀ p q : BitVec 4, (IntOp.shrsi ArithUnit.vector (BitVec.signExtend 32 ((0#4 ++ p) ++ (0#4 ++ q))) 8#32).toNat % 16 = p.toNat := by
  decide +kernel

/-- Rows gathered at codes. -/
theorem rowsAt_apply {F : FTy → Type} [FloatOps F] (t : FVec F S16x128 .bf16) (i : IVec S16x128 32) (s : Fin 16) (l : Fin 128) (n : Fin 16)
    (h : (i (ix2 s l)).toNat % 16 = n.val) : rowsAt t i (ix2 s l) = t (ix2 n l) := by
  have e : n = ⟨(i (ix2 s l)).toNat % 16, Nat.mod_lt _ (by decide)⟩ := Fin.ext h.symm
  rw [e]
  pointwise [rowsAt]

variable {F : FTy → Type} [FloatOps F] (t : FVec F S16x128 .bf16) (k : ℕ) (hk : k < 2) (w : IVec S8x128 32)
  (v : IVec S32x128 8) (h : Holds k w v) (s : Fin 16) (l : Fin 128)

include hk h

theorem evens_apply : evens t w (ix2 s l) = t (ix2 (nib k (v (ix2 (⟨2 * s.val, by omega⟩ : Fin 32) l))).toFin l) := by
  refine rowsAt_apply t _ s l _ ?_
  refine Eq.trans ?_ (low_code (nib k (v (ix2 (⟨2 * s.val + 1, by omega⟩ : Fin 32) l))) _)
  rw [← half_word k hk w v h s l]
  rfl

theorem odds_apply : odds t w (ix2 s l) = t (ix2 (nib k (v (ix2 (⟨2 * s.val + 1, by omega⟩ : Fin 32) l))).toFin l) := by
  refine rowsAt_apply t _ s l _ ?_
  refine Eq.trans ?_ (high_code _ (nib k (v (ix2 (⟨2 * s.val, by omega⟩ : Fin 32) l))))
  rw [← half_word k hk w v h s l]
  rfl

end Cert.Proof.Values

end
-- ==== Proof.Values.Tile.lean ====
/-
  A tile of weights at an index, over the extended reals: row `k` of a chunk is the weight of the input position that
  the reordering puts there.
-/
module

public import proofs.«01_k».proof.Proof.Values.Table
public import proofs.«01_k».proof.Proof.Values.Codes

@[expose] public section

noncomputable section

namespace Cert.Proof.Values

open Cert.KernelIdeal Cert.KernelIdeal.Gen Cert.Proof.Spec
open Idealize.ShloMosaic

attribute [local instance] packsRows

/-! ## A pair of blocks -/

section Block

variable (T : FVec Ideal S32x128 .bf16) (wt : IVec S64x128 8) (b k : ℕ) (hk : k < 2) (o₁ o₂ : ℕ) (h₁ : o₁ = 16 * b) (h₂ : o₂ = 32 * b)
  (s₁ : S32x128.Slices ![o₁, 0] S16x128) (s₂ : S64x128.Slices ![o₂, 0] S32x128) (w : IVec S8x128 32)
  (h : Holds k w (extractStridedSlice S32x128 ![o₂, 0] wt s₂)) (s : Fin 16) (l : Fin 128) (R : Fin 64) (n : Fin 32)
  (hn : n.val = 16 * b + (nib k (wt (ix2 R l))).toNat)

include hk h₁ h₂ h hn

/-- Block `b` of a pair, at the first byte of every two, -/
theorem evens_block (hR : R.val = 32 * b + 2 * s.val) :
    evens (extractStridedSlice S16x128 ![o₁, 0] T s₁) w (ix2 s l) = T (ix2 n l) := by
  have eR : extractStridedSlice S32x128 ![o₂, 0] wt s₂ (ix2 (⟨2 * s.val, by omega⟩ : Fin 32) l) = wt (ix2 R l) := by
    have e : ∀ R' : Fin 64, R'.val = R.val → wt (ix2 R' l) = wt (ix2 R l) := fun R' h => by rw [Fin.ext h]
    pointwise
    exact e _ (by simp only []; omega)
  have e : ∀ n' : Fin 32, n'.val = n.val → T (ix2 n' l) = T (ix2 n l) := fun n' h => by rw [Fin.ext h]
  rw [evens_apply _ k hk w _ h s l, eR]
  pointwise
  exact e _ (by simp only []; rw [hn, h₁]; rfl)

/-- and at the second. -/
theorem odds_block (hR : R.val = 32 * b + 2 * s.val + 1) :
    odds (extractStridedSlice S16x128 ![o₁, 0] T s₁) w (ix2 s l) = T (ix2 n l) := by
  have eR : extractStridedSlice S32x128 ![o₂, 0] wt s₂ (ix2 (⟨2 * s.val + 1, by omega⟩ : Fin 32) l) = wt (ix2 R l) := by
    have e : ∀ R' : Fin 64, R'.val = R.val → wt (ix2 R' l) = wt (ix2 R l) := fun R' h => by rw [Fin.ext h]
    pointwise
    exact e _ (by simp only []; omega)
  have e : ∀ n' : Fin 32, n'.val = n.val → T (ix2 n' l) = T (ix2 n l) := fun n' h => by rw [Fin.ext h]
  rw [odds_apply _ k hk w _ h s l, eR]
  pointwise
  exact e _ (by simp only []; rw [hn, h₁]; rfl)

end Block

/-- Row `k` of a pair of blocks: the row of the table at the code of its byte and nibble. -/
theorem pair_apply (code : Vec Ideal S32x128 .f32) (sc : Vec Ideal S1x8x128 .f32) (wt : IVec S64x128 8) (k l : Fin 128)
    (R : Fin 64) (hR : R.val = 32 * (k.val / 64) + 2 * (k.val % 16) + k.val / 32 % 2) (n : Fin 32)
    (hn : n.val = 16 * (k.val / 64) + (nib (k.val / 16 % 2) (wt (ix2 R l))).toNat) :
    pair code sc wt (ix2 k l) = table code sc (ix2 n l) := by
  have low (h : k.val / 16 % 2 = 0) (v : IVec S32x128 8) :
      Holds (k.val / 16 % 2) (bitcast S8x128 32 v bitcasts_S32x128_w8_S8x128_w32) v := by rw [h]; exact holds_low v
  have up (h : k.val / 16 % 2 = 1) (v : IVec S32x128 8) :
      Holds (k.val / 16 % 2) (high (bitcast S8x128 32 v bitcasts_S32x128_w8_S8x128_w32)) v := by rw [h]; exact holds_high _ v rfl
  pointwise [pair]
  split_ifs
  any_goals (exfalso; omega)
  · obtain ⟨e, e'⟩ : k.val / 16 = 0 ∧ k.val / 32 = 0 := by omega
    refine evens_block _ wt (k.val / 64) (k.val / 16 % 2) ?_ 0 0 ?_ ?_ _ _ _ (low ?_ _) _ l R n hn ?_ <;> first | omega | (simp only []; omega)
  · obtain ⟨e, e'⟩ : k.val / 16 = 1 ∧ k.val / 32 = 0 := by omega
    refine evens_block _ wt (k.val / 64) (k.val / 16 % 2) ?_ 0 0 ?_ ?_ _ _ _ (up ?_ _) _ l R n hn ?_ <;> first | omega | (simp only []; omega)
  · obtain ⟨e, e'⟩ : k.val / 16 = 2 ∧ k.val / 32 = 1 := by omega
    refine odds_block _ wt (k.val / 64) (k.val / 16 % 2) ?_ 0 0 ?_ ?_ _ _ _ (low ?_ _) _ l R n hn ?_ <;> first | omega | (simp only []; omega)
  · obtain ⟨e, e'⟩ : k.val / 16 = 3 ∧ k.val / 32 = 1 := by omega
    refine odds_block _ wt (k.val / 64) (k.val / 16 % 2) ?_ 0 0 ?_ ?_ _ _ _ (up ?_ _) _ l R n hn ?_ <;> first | omega | (simp only []; omega)
  · obtain ⟨e, e'⟩ : k.val / 16 = 4 ∧ k.val / 32 = 2 := by omega
    refine evens_block _ wt (k.val / 64) (k.val / 16 % 2) ?_ 16 32 ?_ ?_ _ _ _ (low ?_ _) _ l R n hn ?_ <;> first | omega | (simp only []; omega)
  · obtain ⟨e, e'⟩ : k.val / 16 = 5 ∧ k.val / 32 = 2 := by omega
    refine evens_block _ wt (k.val / 64) (k.val / 16 % 2) ?_ 16 32 ?_ ?_ _ _ _ (up ?_ _) _ l R n hn ?_ <;> first | omega | (simp only []; omega)
  · obtain ⟨e, e'⟩ : k.val / 16 = 6 ∧ k.val / 32 = 3 := by omega
    refine odds_block _ wt (k.val / 64) (k.val / 16 % 2) ?_ 16 32 ?_ ?_ _ _ _ (low ?_ _) _ l R n hn ?_ <;> first | omega | (simp only []; omega)
  · obtain ⟨e, e'⟩ : k.val / 16 = 7 ∧ k.val / 32 = 3 := by omega
    refine odds_block _ wt (k.val / 64) (k.val / 16 % 2) ?_ 16 32 ?_ ?_ _ _ _ (up ?_ _) _ l R n hn ?_ <;> first | omega | (simp only []; omega)

/-! ## Weights -/

/-- The weight of an input position, from an output channel's bytes and scales. -/
def weight (wv : Fin 2816 → BitVec 8) (av : Fin 88 → EReal) (pos : Fin 5632) : EReal :=
  val (nib (pos.val % 2) (wv ⟨pos.val / 2, by omega⟩)).toNat * av ⟨pos.val / 64, by omega⟩

/-- The input position that the reordering puts at place `k` of a chunk. -/
def perm (k : ℕ) : ℕ := 64 * (k / 64) + 4 * (k % 16) + k / 16 % 4

theorem perm_lt {k : ℕ} (h : k < 256) : perm k < 256 := by unfold perm; omega

/-- The place `k` of chunk `c` reads this position. -/
def place (c : Fin 22) (k : Fin 256) : Fin 5632 := ⟨256 * c.val + perm k.val, by have := perm_lt k.isLt; omega⟩

/-- A pair of blocks whose bytes, scales and table are an output channel's: row `k` is a weight of that channel. -/
theorem pair_weight (code : Vec Ideal S32x128 .f32) (hc : ∀ (r : Fin 32) (l : Fin 128), code (ix2 r l) = val (4 * (r.val % 4) + r.val / 8))
    (sc : Vec Ideal S1x8x128 .f32) (wt : IVec S64x128 8) (wv : Fin 2816 → BitVec 8) (av : Fin 88 → EReal) (p : Fin 44) (k l : Fin 128)
    (hs : ∀ r : Fin 8, sc (ix3 (0 : Fin 1) r l) = av ⟨2 * p.val + r.val / 4, by omega⟩)
    (hw : ∀ R : Fin 64, wt (ix2 R l) = wv ⟨64 * p.val + R.val, by omega⟩)
    (pos : Fin 5632) (hp : pos.val = 128 * p.val + perm k.val) :
    pair code sc wt (ix2 k l) = weight wv av pos := by
  unfold perm at hp
  have hn := (nib (k.val / 16 % 2) (wt (ix2 (⟨32 * (k.val / 64) + 2 * (k.val % 16) + k.val / 32 % 2, by omega⟩ : Fin 64) l))).isLt
  rw [pair_apply code sc wt k l ⟨32 * (k.val / 64) + 2 * (k.val % 16) + k.val / 32 % 2, by omega⟩ rfl ⟨_, by omega⟩ rfl, table_apply, hc, hs]
  unfold weight
  have eb : nib (k.val / 16 % 2) (wt (ix2 (⟨32 * (k.val / 64) + 2 * (k.val % 16) + k.val / 32 % 2, by omega⟩ : Fin 64) l))
      = nib (pos.val % 2) (wv ⟨pos.val / 2, by omega⟩) := by
    rw [hw]
    obtain ⟨b, hb⟩ : ∃ b, b = k.val / 64 := ⟨_, rfl⟩
    obtain ⟨c, hc⟩ : ∃ c, c = k.val / 32 := ⟨_, rfl⟩
    obtain ⟨d, hd⟩ : ∃ d, d = k.val / 16 := ⟨_, rfl⟩
    have hd' : d / 2 = c := by omega
    have hr : d / 4 = b := by omega
    have hk : k.val % 16 = k.val - 16 * d := by omega
    have hp' : pos.val = 2 * (64 * p.val + (32 * b + 2 * (k.val - 16 * d) + c % 2)) + d % 2 := by omega
    have hq : ∀ X r : ℕ, r < 2 → pos.val = 2 * X + r → pos.val / 2 = X ∧ pos.val % 2 = r := by intro X r h h'; omega
    obtain ⟨q₁, q₂⟩ := hq _ _ (Nat.mod_lt _ (by decide)) hp'
    congr 1
    · rw [q₂, hd]
    · congr 1; apply Fin.ext; show _ = pos.val / 2; rw [q₁, hb, hc, ← hk]
  simp only [eb] at hn ⊢
  have hv : ∀ n b : ℕ, n < 16 → b < 2 → 4 * ((8 * ((16 * b + n) % 4) + (16 * b + n) / 4) % 4) + (8 * ((16 * b + n) % 4) + (16 * b + n) / 4) / 8 = n := by
    intro n b h hb
    obtain ⟨n₁, n₀, rfl, h₁, h₀⟩ : ∃ n₁ n₀, n = 4 * n₁ + n₀ ∧ n₁ < 4 ∧ n₀ < 4 := ⟨n / 4, n % 4, by omega, by omega, by omega⟩
    have e₀ : (16 * b + (4 * n₁ + n₀)) % 4 = n₀ := by omega
    have e₁ : (16 * b + (4 * n₁ + n₀)) / 4 = 4 * b + n₁ := by omega
    rw [e₀, e₁]
    have e₂ : (8 * n₀ + (4 * b + n₁)) % 4 = n₁ := by omega
    have e₃ : (8 * n₀ + (4 * b + n₁)) / 8 = n₀ := by omega
    rw [e₂, e₃]
  rw [hv _ _ hn (by omega)]
  congr 2
  apply Fin.ext; simp only []; omega

/-- The bytes of a group, byte by channel. -/
theorem bytes_apply (w : Vec Ideal S512x2816 .i8) (g : Fin 4) (c : Fin 22) (b l : Fin 128) :
    bytes (F := Ideal) w g c (ix2 b l) = w (ix2 (⟨128 * g.val + l.val, by omega⟩ : Fin 512) (⟨128 * c.val + b.val, by omega⟩ : Fin 2816)) := by
  pointwise [bytes, View.ld, rW]

/-- A buffer that holds the scales turned around: four equal rows per block. -/
def Turned (at' : Vec Ideal S4x352x128 .f32) (a : Vec Ideal S512x88 .f32) : Prop :=
  ∀ (g : Fin 4) (R : Fin 352) (l : Fin 128) (o : Fin 512) (b : Fin 88), o.val = 128 * g.val + l.val → b.val = R.val / 4 →
    at' (ix3 g R l) = a (ix2 o b)

variable (code : Vec Ideal S32x128 .f32) (at' : Vec Ideal S4x352x128 .f32) (w : Vec Ideal S512x2816 .i8) (a : Vec Ideal S512x88 .f32)
  (hc : ∀ (r : Fin 32) (l : Fin 128), code (ix2 r l) = val (4 * (r.val % 4) + r.val / 8)) (ha : Turned at' a)

include ha in
/-- The scales the kernel reads for a pair of blocks. -/
theorem scales_read (g : Fin 4) (p : Fin 44) (r : Fin 8) (l : Fin 128) (o : Fin 512) (ho : o.val = 128 * g.val + l.val) :
    (View.ld at' (rS g p) : Vec Ideal S1x8x128 .f32) (ix3 (0 : Fin 1) r l) = a (ix2 o (⟨2 * p.val + r.val / 4, by omega⟩ : Fin 88)) := by
  have e : (View.ld at' (rS g p) : Vec Ideal S1x8x128 .f32) (ix3 (0 : Fin 1) r l)
      = at' (ix3 g (⟨8 * p.val + r.val, by omega⟩ : Fin 352) l) := by
    pointwise [View.ld, rS]
  rw [e, ha g _ l o ⟨2 * p.val + r.val / 4, by omega⟩ ho (by simp only []; omega)]

include hc ha

/-- Row `k` of group `g` in chunk `c`. -/
theorem half_weight (g : Fin 4) (c : Fin 22) (k : Fin 256) (l : Fin 128) (o : Fin 512) (ho : o.val = 128 * g.val + l.val) :
    half code at' w g c (ix2 k l) = weight (fun b => w (ix2 o b)) (fun b => a (ix2 o b)) (place c k) := by
  have eo : (⟨128 * g.val + l.val, by omega⟩ : Fin 512) = o := Fin.ext ho.symm
  have hb (R : Fin 128) : bytes (F := Ideal) w g c (ix2 R l) = w (ix2 o (⟨128 * c.val + R.val, by omega⟩ : Fin 2816)) := by
    rw [bytes_apply, eo]
  have e (R : Fin 2816) (R' : Fin 2816) (h : R.val = R'.val) : w (ix2 o R) = w (ix2 o R') := by rw [Fin.ext h]
  pointwise [half]
  split_ifs
  any_goals (exfalso; omega)
  · refine pair_weight code hc _ _ _ _ ⟨2 * c.val, by omega⟩ _ l (fun r => scales_read at' a ha g _ r l o ho) (fun R => ?_) _ ?_
    · pointwise [hb]
      exact e _ _ (by simp only []; omega)
    · simp only [place, perm]; omega
  · refine pair_weight code hc _ _ _ _ ⟨2 * c.val + 1, by omega⟩ _ l (fun r => scales_read at' a ha g _ r l o ho) (fun R => ?_) _ ?_
    · pointwise [hb]
      exact e _ _ (by simp only []; omega)
    · simp only [place, perm]; omega

/-- Row `k` of unit `q` in chunk `c`. -/
theorem tile_weight (q : Fin 2) (c : Fin 22) (k j : Fin 256) (o : Fin 512) (ho : o.val = 256 * q.val + j.val) :
    tile code at' w q c (ix2 k j) = weight (fun b => w (ix2 o b)) (fun b => a (ix2 o b)) (place c k) := by
  pointwise [tile]
  split_ifs
  any_goals (exfalso; omega)
  · exact half_weight code at' w a hc ha _ c k _ o (by simp only []; omega)
  · exact half_weight code at' w a hc ha _ c k _ o (by simp only []; omega)

end Cert.Proof.Values

end
-- ==== Proof.Values.Scratch.lean ====
/-
  What the kernel's scratch buffers hold at an index, over the extended reals: the value of every row's code, the scales
  turned around, and the reordered input.
-/
module

public import proofs.«01_k».proof.Proof.Values.Tile
public import proofs.«01_k».proof.Proof.Chain
public import Idealize.ShloMosaic.Lib.MatmulPlain
public import Idealize.ShloMosaic.Lib.Pipeline.Value

@[expose] public section

noncomputable section

namespace Cert.Proof.Values

open Cert.KernelIdeal Cert.KernelIdeal.Gen Cert.Proof.Spec
open Idealize.ShloMosaic
open scoped BigOperators

attribute [local instance] packsRows

/-! ## The values of the codes -/

theorem values_apply (r : Fin 32) (l : Fin 128) : (values : Vec Ideal S32x128 .f32) (ix2 r l) = val (4 * (r.val % 4) + r.val / 8) := by
  have hi : (Rect.unit (s := S32x128) ![0, 0] S32x128.size inb_S32x128_S32x128_0_0).emb (ix2 r l) = ix2 r l := by
    funext a
    match a with
    | ⟨0, _⟩ => exact Fin.ext (show 0 + 1 * r.val = r.val by omega)
    | ⟨1, _⟩ => exact Fin.ext (show 0 + 1 * l.val = l.val by omega)
  unfold values
  rw [← codeTable_apply r l]
  have h := View.canon_cons_emb (Val := Elt Ideal) (e := .f32) (Rect.unit (s := S32x128) ![0, 0] S32x128.size inb_S32x128_S32x128_0_0)
    (shapeCast S32x128 (codeTable : FVec Ideal S32x128 .f32) shapeCasts_S32x128_S32x128 : FVec Ideal S32x128 .f32) [] (ix2 r l)
  rw [hi] at h
  exact h.trans (by rw [shapeCast_id])

/-! ## The scales -/

theorem atRows_apply (a : Vec Ideal S512x88 .f32) (g : Fin 4) (z : Fin 1) (b : Fin 88) (l : Fin 128) :
    atRows a g (ix3 z b l) = a (ix2 (⟨128 * g.val + l.val, by omega⟩ : Fin 512) b) := by
  pointwise [atRows, View.ld, rA]

theorem atPieces_mem (a : Vec Ideal S512x88 .f32) (p : View.Piece (Elt Ideal) S4x352x128 .f32) : ∀ (n : ℕ) (h : n ≤ 16),
    p ∈ atPieces a n h → ∃ g m : Fin 4, p = ⟨rT g m, atRows a g⟩
  | n + 1, h, hp => by
    unfold atPieces at hp
    rcases List.mem_cons.1 hp with rfl | hp
    · exact ⟨_, _, rfl⟩
    · exact atPieces_mem a p n _ hp

theorem scales_apply (a : Vec Ideal S512x88 .f32) (g : Fin 4) (R : Fin 352) (l : Fin 128) :
    scales a (ix3 g R l) = a (ix2 (⟨128 * g.val + l.val, by omega⟩ : Fin 512) (⟨R.val / 4, by omega⟩ : Fin 88)) := by
  refine (View.canon_apply_of_pieces (fun y : S4x352x128.Idx => a (ix2
    (⟨128 * (y 0).val + (y 2).val, by have h0 : (y 0).val < 4 := (y 0).isLt; have h2 : (y 2).val < 128 := (y 2).isLt; omega⟩ : Fin 512)
    (⟨(y 1).val / 4, by have h1 : (y 1).val < 352 := (y 1).isLt; omega⟩ : Fin 88))) (atPieces a 16 le_rfl) ?_ _ (cover_atPieces a _)).trans rfl
  intro p hp x
  obtain ⟨g, m, rfl⟩ := atPieces_mem a p 16 le_rfl hp
  obtain ⟨z, b, l, rfl⟩ : ∃ (z : Fin 1) (b : Fin 88) (l : Fin 128), x = ix3 z b l := ⟨x 0, x 1, x 2, (ix3_eta (n0 := 1) (n1 := 88) (n2 := 128) x).symm⟩
  have e (o o' : Fin 512) (h : o = o') (b b' : Fin 88) (h' : b = b') : a (ix2 o b) = a (ix2 o' b') := by rw [h, h']
  refine (atRows_apply a g z b l).trans (e _ _ (Fin.ext ?_) _ _ (Fin.ext ?_))
  · show 128 * g.val + l.val = 128 * (g.val + 1 * z.val) + (0 + 1 * l.val)
    omega
  · show b.val = (m.val + 4 * b.val) / 4
    omega

theorem scales_turned (a : Vec Ideal S512x88 .f32) : Turned (scales a) a := by
  intro g R l o b ho hb
  rw [scales_apply]
  have e (o o' : Fin 512) (h : o = o') (b b' : Fin 88) (h' : b = b') : a (ix2 o b) = a (ix2 o' b') := by rw [h, h']
  exact e _ _ (Fin.ext ho.symm) _ _ (Fin.ext hb.symm)

/-! ## The reordered input -/

/-- The matrix unit's product at an index. -/
theorem mxuPass_plain (lhs : FVec Ideal S128x256 .bf16) (rhs : FVec Ideal S256x256 .bf16) (r : Fin 128) (j : Fin 256) :
    (FloatOps.mxuPass (F := Ideal) (DotDims.plain 128 256 256) lhs rhs : FVec Ideal S128x256 .f32) (ix2 r j)
      = ∑ k : Fin 256, (lhs (ix2 r k) : EReal) * rhs (ix2 k j) := by
  have h := Ideal.matmul_plain_apply (M := 128) (K := 256) (N := 256) none lhs rhs (fun _ => (0 : EReal)) r j
  rw [Ideal.matmul_apply] at h
  exact (zero_add _).symm.trans (h.trans (zero_add _))

theorem permSrc_apply (k d : Fin 256) : permSrc (ix2 k d) = BitVec.ofNat 32 (perm d.val) := by
  have h : ∀ d : Fin 256, IntOp.ori (IntOp.ori (IntOp.andi (BitVec.ofNat 32 d.val) 4294967232#32)
      (IntOp.shli ArithUnit.vector (IntOp.andi (BitVec.ofNat 32 d.val) 15#32) 2#32))
      (IntOp.andi (IntOp.shrsi ArithUnit.vector (BitVec.ofNat 32 d.val) 4#32) 3#32) = BitVec.ofNat 32 (perm d.val) := by
    decide +kernel
  rw [← h d]
  pointwise [permSrc]

theorem permTile_apply (k d : Fin 256) : (permTile : FVec Ideal S256x256 .bf16) (ix2 k d) = if k.val = perm d.val then (1 : EReal) else 0 := by
  have e : (permTile : FVec Ideal S256x256 .bf16) (ix2 k d) = Scalar.select (Scalar.cmpi .eq (permRow (ix2 k d)) (permSrc (ix2 k d)))
      (Ideal.ofBits .f32 0x3F800000#32) (Ideal.ofBits .f32 0x00000000#32) := rfl
  have hr : permRow (ix2 k d) = BitVec.ofNat 32 k.val := by pointwise [permRow]
  rw [e, hr, permSrc_apply]
  have hp := perm_lt d.isLt
  have hk := k.isLt
  by_cases h : k.val = perm d.val
  · rw [if_pos h, h]
    pointwise
  · rw [if_neg h]
    have hne : BitVec.ofNat 32 k.val ≠ BitVec.ofNat 32 (perm d.val) := by
      intro hh
      have := congrArg BitVec.toNat hh
      simp only [BitVec.toNat_ofNat] at this
      omega
    pointwise
    refine Scalar.select_of_ne_one (fun hh => hne ?_) _ _
    have hh' : BitVec.ofBool (BitVec.ofNat 32 k.val == BitVec.ofNat 32 (perm d.val)) = 1#1 := hh
    rw [beq_false_of_ne hne] at hh'
    exact absurd hh' (by decide)

theorem xPiece_apply (x : Vec Ideal S128x5632 .bf16) (c : Fin 22) (t : Fin 128) (d : Fin 256) :
    xPiece x c (ix2 t d) = x (ix2 t (place c d)) := by
  have hx (k : Fin 256) : (xin x c (ix2 t k) : EReal) = x (ix2 t (⟨256 * c.val + k.val, by omega⟩ : Fin 5632)) := by
    pointwise [xin, View.ld, rX]
  have e : xPiece x c (ix2 t d) = (FloatOps.mxuPass (F := Ideal) (DotDims.plain 128 256 256) (xin x c) permTile : FVec Ideal S128x256 .f32) (ix2 t d) := by
    rw [xPiece_eq, shapeCast_id]; rfl
  rw [e, mxuPass_plain, Finset.sum_eq_single (⟨perm d.val, perm_lt d.isLt⟩ : Fin 256)]
  · rw [permTile_apply, if_pos rfl, mul_one, hx]; rfl
  · intro k _ hk
    rw [permTile_apply, if_neg (fun h => hk (Fin.ext h)), mul_zero]
  · intro h; exact absurd (Finset.mem_univ _) h

theorem xPieces_mem (x : Vec Ideal S128x5632 .bf16) (p : View.Piece (Elt Ideal) S128x5632 .bf16) : ∀ (n : ℕ) (h : n ≤ 22),
    p ∈ xPieces x n h → ∃ c : Fin 22, p = ⟨rX c, xPiece x c⟩
  | n + 1, h, hp => by
    unfold xPieces at hp
    rcases List.mem_cons.1 hp with rfl | hp
    · exact ⟨_, rfl⟩
    · exact xPieces_mem x p n _ hp

theorem mem_xPieces (x : Vec Ideal S128x5632 .bf16) (c : Fin 22) : ∀ (n : ℕ) (h : n ≤ 22) (_ : c.val < n),
    (⟨rX c, xPiece x c⟩ : View.Piece (Elt Ideal) S128x5632 .bf16) ∈ xPieces x n h
  | n + 1, h, hc => by
    unfold xPieces
    by_cases e : c.val = n
    · obtain rfl : c = ⟨n, h⟩ := Fin.ext e
      exact List.mem_cons_self
    · exact List.mem_cons_of_mem _ (mem_xPieces x c n _ (by omega))

/-- Chunk `c` of the reordered input. -/
theorem xchunk_apply (x : Vec Ideal S128x5632 .bf16) (c : Fin 22) (t : Fin 128) (k : Fin 256) :
    xchunk (reordered x) c (ix2 t k) = x (ix2 t (place c k)) := by
  have hk := k.isLt
  have key := View.canon_apply_of_pieces (fun y : S128x5632.Idx => x (ix2 (y 0 : Fin 128)
    (⟨256 * ((y 1).val / 256) + perm ((y 1).val % 256), by
      have h1 : (y 1).val < 5632 := (y 1).isLt; have := perm_lt (Nat.mod_lt (y 1).val (by decide : 0 < 256)); omega⟩ : Fin 5632)))
    (xPieces x 22 le_rfl) ?_ ((rX c).emb (ix2 t k)) ⟨_, mem_xPieces x c 22 le_rfl c.isLt, by
      rw [LoadRect.mem_set]; intro a
      match a with
      | ⟨0, _⟩ => exact ⟨t.val, t.isLt, rfl⟩
      | ⟨1, _⟩ => exact ⟨k.val, k.isLt, rfl⟩⟩
  · refine Eq.trans (show _ = View.canon (xPieces x 22 le_rfl) ((rX c).emb (ix2 t k)) from rfl) (key.trans ?_)
    have e (t' : Fin 128) (h : t' = t) (p p' : Fin 5632) (hp : p = p') : x (ix2 t' p) = x (ix2 t p') := by rw [h, hp]
    refine e _ (Fin.ext ?_) _ _ (Fin.ext ?_)
    · show 0 + 1 * t.val = t.val
      omega
    · show 256 * ((256 * c.val + 1 * k.val) / 256) + perm ((256 * c.val + 1 * k.val) % 256) = 256 * c.val + perm k.val
      rw [show (256 * c.val + 1 * k.val) / 256 = c.val by omega, show (256 * c.val + 1 * k.val) % 256 = k.val by omega]
  · intro p hp y
    obtain ⟨c, rfl⟩ := xPieces_mem x p 22 le_rfl hp
    obtain ⟨t, d, rfl⟩ : ∃ (t : Fin 128) (d : Fin 256), y = ix2 t d := ⟨y 0, y 1, (ix2_eta (n0 := 128) (n1 := 256) y).symm⟩
    have e (t' : Fin 128) (h : t = t') (p p' : Fin 5632) (hp : p = p') : x (ix2 t p) = x (ix2 t' p') := by rw [h, hp]
    refine (xPiece_apply x c t d).trans (e _ (Fin.ext ?_) _ _ (Fin.ext ?_))
    · show t.val = 0 + 1 * t.val
      omega
    · show 256 * c.val + perm d.val = 256 * ((256 * c.val + 1 * d.val) / 256) + perm ((256 * c.val + 1 * d.val) % 256)
      rw [show (256 * c.val + 1 * d.val) / 256 = c.val by omega, show (256 * c.val + 1 * d.val) % 256 = d.val by omega]

end Cert.Proof.Values

end
-- ==== Proof.Values.Block.lean ====
/-
  The output block of a step at an index, over the extended reals: the sum over the input positions of input times weight.
-/
module

public import proofs.«01_k».proof.Proof.Values.Scratch

@[expose] public section

noncomputable section

namespace Cert.Proof.Values

open Cert.KernelIdeal Cert.KernelIdeal.Gen Cert.Proof.Spec
open Idealize.ShloMosaic
open scoped BigOperators

attribute [local instance] packsRows

/-! ## Re-indexing -/

/-- The places of all chunks are the input positions, each once; the sum over them is the sum over the even positions
    and the sum over the odd ones. -/
theorem sum_places (f : Fin 5632 → EReal) :
    ∑ c : Fin 22, ∑ k : Fin 256, f (place c k)
      = ∑ b : Fin 2816, f ⟨2 * b.val, by omega⟩ + ∑ b : Fin 2816, f ⟨2 * b.val + 1, by omega⟩ := by
  have hp : ∑ c : Fin 22, ∑ k : Fin 256, f (place c k) = ∑ p : Fin 5632, f p := by
    rw [← Fintype.sum_prod_type' (fun c k => f (place c k))]
    refine Fintype.sum_bijective (fun q : Fin 22 × Fin 256 => place q.1 q.2) ?_ _ _ fun _ => rfl
    rw [Fintype.bijective_iff_injective_and_card]
    refine ⟨fun ⟨c, k⟩ ⟨c', k'⟩ h => ?_, by simp⟩
    have h' : 256 * c.val + perm k.val = 256 * c'.val + perm k'.val := congrArg Fin.val h
    have h₁ := perm_lt k.isLt
    have h₂ := perm_lt k'.isLt
    have hc : c.val = c'.val := by omega
    have hk : perm k.val = perm k'.val := by omega
    have inj : ∀ k : Fin 256, 64 * (perm k.val / 64) + 16 * (perm k.val % 4) + perm k.val % 64 / 4 = k.val := by decide +kernel
    rw [Prod.mk.injEq]
    exact ⟨Fin.ext hc, Fin.ext (by rw [← inj k, ← inj k', hk])⟩
  have hs : ∑ p : Fin 5632, f p = ∑ b : Fin 2816, ∑ s : Fin 2, f ⟨2 * b.val + s.val, by omega⟩ := by
    rw [← Fintype.sum_prod_type' (fun (b : Fin 2816) (s : Fin 2) => f ⟨2 * b.val + s.val, by omega⟩)]
    symm
    refine Fintype.sum_bijective (fun q : Fin 2816 × Fin 2 => (⟨2 * q.1.val + q.2.val, by omega⟩ : Fin 5632)) ?_ _ _ fun _ => rfl
    rw [Fintype.bijective_iff_injective_and_card]
    refine ⟨fun ⟨b, s⟩ ⟨b', s'⟩ h => ?_, by simp⟩
    have h' : 2 * b.val + s.val = 2 * b'.val + s'.val := congrArg Fin.val h
    rw [Prod.mk.injEq]
    exact ⟨Fin.ext (by omega), Fin.ext (by omega)⟩
  rw [hp, hs, ← Finset.sum_add_distrib]
  exact Finset.sum_congr rfl fun b _ => Fin.sum_univ_two _

/-! ## The block -/

/-- The result of a row and an output channel, chunk by chunk, from the row, the channel's bytes and its scales. -/
def answer (xv : Fin 5632 → EReal) (wv : Fin 2816 → BitVec 8) (av : Fin 88 → EReal) : EReal :=
  ∑ c : Fin 22, ∑ k : Fin 256, xv (place c k) * weight wv av (place c k)

variable (x : Vec Ideal S128x5632 .bf16) (w : Vec Ideal S512x2816 .i8) (a : Vec Ideal S512x88 .f32)

/-- The result of a row and an output channel of a step. -/
def dot (t : Fin 128) (o : Fin 512) : EReal :=
  answer (fun p => x (ix2 t p)) (fun b => w (ix2 o b)) (fun b => a (ix2 o b))

theorem product_apply (q : Fin 2) (c : Fin 22) (t : Fin 128) (j : Fin 256) (o : Fin 512) (ho : o.val = 256 * q.val + j.val) :
    product (reordered x) values (scales a) w q c (ix2 t j)
      = ∑ k : Fin 256, (x (ix2 t (place c k)) : EReal) * weight (fun b => w (ix2 o b)) (fun b => a (ix2 o b)) (place c k) := by
  refine (mxuPass_plain _ _ t j).trans (Finset.sum_congr rfl fun k _ => ?_)
  rw [xchunk_apply, tile_weight values (scales a) w a values_apply (scales_turned a) q c k j o ho]

theorem sums_apply (q : Fin 2) (t : Fin 128) (j : Fin 256) (o : Fin 512) (ho : o.val = 256 * q.val + j.val) :
    ∀ (n : ℕ) (h : n + 1 ≤ 22), sums (reordered x) values (scales a) w q n h (ix2 t j)
      = ∑ c : Fin (n + 1), ∑ k : Fin 256, (x (ix2 t (place (c.castLE h) k)) : EReal)
          * weight (fun b => w (ix2 o b)) (fun b => a (ix2 o b)) (place (c.castLE h) k)
  | 0, h => by
    rw [Fin.sum_univ_one]
    exact product_apply x w a q ⟨0, h⟩ t j o ho
  | n + 1, h => by
    rw [Fin.sum_univ_castSucc]
    have e : sums (reordered x) values (scales a) w q (n + 1) h (ix2 t j)
        = (sums (reordered x) values (scales a) w q n (Nat.le_of_succ_le h) (ix2 t j) : EReal)
          + product (reordered x) values (scales a) w q ⟨n + 1, h⟩ (ix2 t j) := rfl
    rw [e, sums_apply q t j o ho n, product_apply x w a q ⟨n + 1, h⟩ t j o ho]
    rfl

theorem total_apply (q : Fin 2) (t : Fin 128) (j : Fin 256) (o : Fin 512) (ho : o.val = 256 * q.val + j.val) :
    total (reordered x) values (scales a) w q (ix2 t j) = dot x w a t o :=
  sums_apply x w a q t j o ho 21 le_rfl

theorem block_apply (t : Fin 128) (o : Fin 512) : block x w a (ix2 t o) = dot x w a t o := by
  have et (t t' : Fin 128) (h : t = t') (o o' : Fin 512) (h' : o = o') : dot x w a t o = dot x w a t' o' := by rw [h, h']
  refine View.canon_apply_of_pieces (Val := Elt Ideal) (e := .bf16) (fun y : S128x512.Idx => dot x w a (y 0 : Fin 128) (y 1 : Fin 512)) _ ?_ (ix2 t o) ?_
  · intro p hp y
    unfold outPieces at hp
    rcases List.mem_cons.1 hp with rfl | hp
    · obtain ⟨t, j, rfl⟩ : ∃ (t : Fin 128) (j : Fin 256), y = ix2 t j := ⟨y 0, y 1, (ix2_eta (n0 := 128) (n1 := 256) y).symm⟩
      have h := res1_clean (reordered x) values (scales a) w Mxu.init clean_init
      refine (congrFun h (ix2 t j)).trans ((total_apply x w a 1 t j ⟨256 + j.val, by omega⟩ rfl).trans (et _ _ (Fin.ext ?_) _ _ (Fin.ext ?_)))
      · show t.val = 0 + 1 * t.val
        omega
      · show 256 + j.val = 256 * 1 + 1 * j.val
        omega
    · obtain rfl := List.mem_singleton.1 hp
      obtain ⟨t, j, rfl⟩ : ∃ (t : Fin 128) (j : Fin 256), y = ix2 t j := ⟨y 0, y 1, (ix2_eta (n0 := 128) (n1 := 256) y).symm⟩
      have h := res0_clean (reordered x) values (scales a) w Mxu.init clean_init
      refine (congrFun h (ix2 t j)).trans ((total_apply x w a 0 t j ⟨j.val, by omega⟩ (by simp)).trans (et _ _ (Fin.ext ?_) _ _ (Fin.ext ?_)))
      · show t.val = 0 + 1 * t.val
        omega
      · show j.val = 256 * 0 + 1 * j.val
        omega
  · unfold outPieces
    by_cases h : o.val < 256
    · refine ⟨_, List.mem_cons_of_mem _ List.mem_cons_self, ?_⟩
      rw [LoadRect.mem_set]; intro a
      match a with
      | ⟨0, _⟩ => exact ⟨t.val, t.isLt, by show t.val = 0 + 1 * t.val; omega⟩
      | ⟨1, _⟩ => exact ⟨o.val, h, by show o.val = 256 * 0 + 1 * o.val; omega⟩
    · refine ⟨_, List.mem_cons_self, ?_⟩
      rw [LoadRect.mem_set]; intro a
      match a with
      | ⟨0, _⟩ => exact ⟨t.val, t.isLt, by show t.val = 0 + 1 * t.val; omega⟩
      | ⟨1, _⟩ => exact ⟨o.val - 256, by show o.val - 256 < 256; omega, by show o.val = 256 * 1 + 1 * (o.val - 256); omega⟩

end Cert.Proof.Values

end
-- ==== Proof.Values.Array.lean ====
/-
  The output array after the run, over the extended reals: every entry is the answer of its row of the input and of its
  output channel's bytes and scales.
-/
module

public import proofs.«01_k».proof.Proof.Ideal.Frame
public import proofs.«01_k».proof.Proof.Values.Block
public import Idealize.ShloMosaic.Lib.Pipeline.Value
public import Idealize.ShloMosaic.Lib.Claim

@[expose] public section

noncomputable section

namespace Cert.Proof.Values

open Cert.KernelIdeal Cert.KernelIdeal.Gen Cert.Proof.Spec Cert.Proof.Ideal
open Idealize.ShloMosaic Idealize.ShloMosaic.TcCoe Idealize.SL.Sem
open Idealize.ShloMosaic.Pipeline (Dat)

attribute [local instance] packsRows

variable (m : (ℓ : Loc nD τ sig) → Buf (Elt Ideal) ℓ)

/-! ## The arrays the steps read -/

/-- The arguments. -/
abbrev argX (c : Dev nD) : Vec Ideal S128x1x5632 .bf16 := m ((c : Thread nD τ).loc main_arg0)
abbrev argW (c : Dev nD) : Vec Ideal S15360x2816 .i8 := m ((c : Thread nD τ).loc main_arg1)
abbrev argA (c : Dev nD) : Vec Ideal S15360x88 .f32 := m ((c : Thread nD τ).loc main_arg2)

/-- The input as the steps find it: the unit axis dropped. -/
theorem input_eq (c : Dev nD) : V m c main_v0 = shapeCast S128x5632 (argX m c) shapeCasts_S128x1x5632_S128x5632 := by
  entry_read
  rfl

theorem input_apply (c : Dev nD) (t : Fin 128) (p : Fin 5632) :
    (V m c main_v0 : Vec Ideal S128x5632 .bf16) (ix2 t p) = argX m c (ix3 t (0 : Fin 1) p) := by
  rw [input_eq]
  refine shapeCast_apply _ _ _ _ ?_
  rw [Shape.rowMajor_val_three, Shape.rowMajor_val_two]
  show (t.val * 1 + 0) * 5632 + p.val = t.val * 5632 + p.val
  omega

/-! ## The blocks -/

theorem steps : cfg0.N = 30 := N_0

/-- Channel `512 s + o`. -/
def channel (s : Fin cfg0.N) (o : Fin 512) : Fin 15360 := ⟨512 * s.val + o.val, by have h : s.val < 30 := Nat.lt_of_lt_of_eq s.isLt steps; omega⟩

theorem block_index : ∀ s : Fin cfg0.N, win0_0.index s 0 = 0 ∧ win0_0.index s 1 = 0 ∧ win0_1.index s 0 = s.val ∧ win0_1.index s 1 = 0
    ∧ win0_2.index s 0 = s.val ∧ win0_2.index s 1 = 0 ∧ win0_3.index s 0 = 0 ∧ win0_3.index s 1 = s.val := by
  decide +kernel

theorem x_block (c : Dev nD) (s : Fin cfg0.N) (t : Fin 128) (p : Fin 5632) :
    (iblk m c 0 s : Vec Ideal S128x5632 .bf16) (ix2 t p) = argX m c (ix3 t (0 : Fin 1) p) := by
  rw [← input_apply]
  show V m c main_v0 ((win0_0.rect s).emb (ix2 t p)) = _
  refine congrArg _ (Shape.idx_ext₂ ?_ ?_)
  · exact (win0_0.rect_emb_val_of_index_zero s 0 (block_index s).1 _)
  · exact (win0_0.rect_emb_val_of_index_zero s 1 (block_index s).2.1 _)

theorem w_block (c : Dev nD) (s : Fin cfg0.N) (o : Fin 512) (b : Fin 2816) :
    (iblk m c 1 s : Vec Ideal S512x2816 .i8) (ix2 o b) = argW m c (ix2 (channel s o) b) := by
  have hV : V m c main_arg1 = argW m c := V_main_arg1 m c
  rw [← hV]
  show V m c main_arg1 ((win0_1.rect s).emb (ix2 o b)) = _
  refine congrArg _ (Shape.idx_ext₂ ?_ ?_)
  · refine (win0_1.rect_emb_val s (ix2 o b) 0).trans ?_
    rw [(block_index s).2.2.1]
    show s.val * 512 + o.val = 512 * s.val + o.val
    omega
  · exact (win0_1.rect_emb_val_of_index_zero s 1 (block_index s).2.2.2.1 _)

theorem a_block (c : Dev nD) (s : Fin cfg0.N) (o : Fin 512) (b : Fin 88) :
    (iblk m c 2 s : Vec Ideal S512x88 .f32) (ix2 o b) = argA m c (ix2 (channel s o) b) := by
  have hV : V m c main_arg2 = argA m c := V_main_arg2 m c
  rw [← hV]
  show V m c main_arg2 ((win0_2.rect s).emb (ix2 o b)) = _
  refine congrArg _ (Shape.idx_ext₂ ?_ ?_)
  · refine (win0_2.rect_emb_val s (ix2 o b) 0).trans ?_
    rw [(block_index s).2.2.2.2.1]
    show s.val * 512 + o.val = 512 * s.val + o.val
    omega
  · exact (win0_2.rect_emb_val_of_index_zero s 1 (block_index s).2.2.2.2.2.1 _)

/-! ## The output array -/

/-- The answer of row `t` and channel `o`. -/
def entry (c : Dev nD) (t : Fin 128) (o : Fin 15360) : EReal :=
  answer (fun p => argX m c (ix3 t (0 : Fin 1) p)) (fun b => argW m c (ix2 o b)) (fun b => argA m c (ix2 o b))

/-- The output array, before its unit axis is added. -/
def output (c : Dev nD) : Vec Ideal S128x15360 .bf16 := fun i => entry m c (i 0) (i 1)

theorem block_entry (c : Dev nD) (s : Fin cfg0.N) (t : Fin 128) (o : Fin 512) :
    block (iblk m c 0 s) (iblk m c 1 s) (iblk m c 2 s) (ix2 t o) = entry m c t (channel s o) := by
  refine (block_apply (iblk m c 0 s) (iblk m c 1 s) (iblk m c 2 s) t o).trans ?_
  unfold dot entry
  simp only [x_block, w_block, a_block]

/-- What a step writes back is its block of the output. -/
theorem flushed_eq (c : Dev nD) (s : Fin cfg0.N) :
    (dats m 0 c).flushed 3 s = (win0_3.blk s).view.read (Elt Ideal) (output m c) := by
  show (cfg0.win 3).cut (grid0.coords s) ((dats m 0 c).after 3 s) = _
  rw [after0_3]
  funext y
  have hy : (y : S128x512.Idx) = ix2 (y 0) (y 1) := Shape.idx_ext₂ rfl rfl
  show block (iblk m c 0 s) (iblk m c 1 s) (iblk m c 2 s) (y : S128x512.Idx) = output m c ((win0_3.rect s).emb y)
  rw [hy]
  refine (block_entry m c s (y 0) (y 1)).trans ?_
  unfold output
  refine congrArg₂ (entry m c) (Fin.ext ?_) (Fin.ext ?_)
  · exact (win0_3.rect_emb_val_of_index_zero s 0 (block_index s).2.2.2.2.2.2.1 _).symm
  · refine Eq.trans ?_ (win0_3.rect_emb_val s _ 1).symm
    rw [(block_index s).2.2.2.2.2.2.2]
    show 512 * s.val + (y 1).val = s.val * 512 + (y 1).val
    omega

/-- Every entry of the output is in some step's block. -/
theorem cover (i : S128x15360.Idx) :
    ∃ s : Fin cfg0.N, (cfg0.win 3).flush s = true ∧ i ∈ ((cfg0.win 3).blk s).view.set := by
  have h0 : (i 0).val < 128 := (i 0).isLt
  have h1 : (i 1).val < 15360 := (i 1).isLt
  have hlt : (i 1).val / 512 < cfg0.N := by rw [steps]; omega
  obtain ⟨s, hv⟩ : ∃ s : Fin cfg0.N, s.val = (i 1).val / 512 := ⟨⟨_, hlt⟩, rfl⟩
  refine ⟨s, flush0_3 s, ?_⟩
  show i ∈ ((View.whole main_v1).slice (win0_3.rect s)).set
  rw [View.set_slice_whole, Rect.mem_set_unit]
  intro a
  match a with
  | ⟨0, _⟩ =>
    show win0_3.index s 0 * 128 ≤ (i 0).val ∧ (i 0).val < win0_3.index s 0 * 128 + 128
    rw [(block_index s).2.2.2.2.2.2.1]
    omega
  | ⟨1, _⟩ =>
    show win0_3.index s 1 * 512 ≤ (i 1).val ∧ (i 1).val < win0_3.index s 1 * 512 + 512
    rw [(block_index s).2.2.2.2.2.2.2]
    omega

theorem output_eq (c : Dev nD) : (dats m 0 c).arrAt 3 cfg0.N = output m c :=
  (dats m 0 c).arrAt_eq_of_cover 3 (output m c) (fun s _ => flushed_eq m c s) cover

/-! ## The run -/

/-- The result: the output with its unit axis. -/
def outcome (c : Dev nD) : Vec Ideal S128x1x15360 .bf16 :=
  shapeCast S128x1x15360 (output m c) shapeCasts_S128x15360_S128x1x15360

theorem outcome_apply (c : Dev nD) (t : Fin 128) (o : Fin 15360) :
    outcome m c (ix3 t (0 : Fin 1) o) = entry m c t o := by
  unfold outcome
  refine (shapeCast_apply _ _ _ (ix2 t o) ?_).trans rfl
  rw [Shape.rowMajor_val_three, Shape.rowMajor_val_two]
  show t.val * 15360 + o.val = (t.val * 1 + 0) * 15360 + o.val
  omega

theorem result_eq (c : Dev nD) :
    Pipeline.afterTail₀ cfgs (dats m) 0 (V0 m) [hostOps1] c main_v2 = outcome m c := by
  unfold Pipeline.afterTail₀
  rw [show ([hostOps1] : List (List (HloOp τ sig (Elt Ideal)))).flatten = hostOps1 from rfl]
  simp only [StableHlo.after_cons, StableHlo.after_nil]
  rw [StableHlo.reshape_result]
  unfold outcome
  refine congrArg (fun v => shapeCast S128x1x15360 v shapeCasts_S128x15360_S128x1x15360) ?_
  exact (Pipeline.withArrays_arr spec0 launch0.win.arr_inj c (V0 m c) _ 3).trans (output_eq m c)

theorem kernel_run (ρ : Dev nD → PrngReg) : θ_run defs (onTc (τ := τ) (main (F := Ideal))) ⟨m, fun _ => 0, ρ⟩ (fun r => ∀ c : Dev nD,
      r.2.mem ((c.tc : Thread nD τ).loc main_v2) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m ρ) (frame_of m ρ (dats m) (A_eq m) (run_main m ρ))) fun r h c =>
    ⟨((h.1 c).2 main_v2 (Pipeline.mem_restRefs_of main_v2 (by decide) (by decide))).trans (result_eq m c), h.2 c⟩

end Cert.Proof.Values

end
-- ==== Proof.Values.Reference.lean ====
/-
  The reference's result at an index, over the extended reals: the sum over the even input positions plus the sum over
  the odd ones of input times weight.
-/
module

public import proofs.«01_k».proof.Proof.Reference
public import proofs.«01_k».proof.Proof.Values.Block
public import Idealize.ShloMosaic.Lib.Pointwise

@[expose] public section

noncomputable section

namespace Cert.Proof.Values

open Cert.ReferenceIdeal Cert.ReferenceIdeal.Gen Cert.Proof.Reference
open Idealize.ShloMosaic
open scoped BigOperators

/-- The pattern of the value at the code that four bits spell, bit `b0` the lowest. -/
def pattern (b0 b1 b2 b3 : BitVec 1) : BitVec 32 :=
  let leaf (one zero : BitVec 32) : BitVec 32 := Scalar.select b0 one zero
  Scalar.select b3
    (Scalar.select b2 (Scalar.select b1 (leaf 0x3F800000#32 0x3F3913B3#32) (leaf 0x3F1007AB#32 0x3EE1A4B8#32))
      (Scalar.select b1 (leaf 0x3EAD033A#32 0x3E7C04DD#32) (leaf 0x3E24CAE3#32 0x3DA2FAFF#32)))
    (Scalar.select b2 (Scalar.select b1 (leaf 0x00000000#32 0xBDBA7871#32) (leaf 0xBE3D353F#32 0xBE91A24D#32))
      (Scalar.select b1 (leaf 0xBECA32A0#32 0xBF066B30#32) (leaf 0xBF3239B1#32 0xBF800000#32)))

theorem value_pattern (b0 b1 b2 b3 : IVec S15360x2816 1) (i : S15360x2816.Idx) :
    (value b0 b1 b2 b3 : FVec Ideal S15360x2816 .f32) i = Ideal.ofBits .f32 (pattern (b0 i) (b1 i) (b2 i) (b3 i)) := by
  simp only [pattern, Scalar.apply_select (Ideal.ofBits .f32)]
  rfl

/-- Whether a byte's bit is set. -/
def test (b : BitVec 8) (k : BitVec 32) : BitVec 1 := IntOp.cmpi .ne (IntOp.andi (b.setWidth 32) k) 0#32

theorem lower_pattern : ∀ b : BitVec 8, pattern (test b 1#32) (test b 2#32) (test b 4#32) (test b 8#32)
    = (Spec.nf4.getD (nib 0 b).toNat (0, 0)).2 := by decide +kernel
theorem upper_pattern : ∀ b : BitVec 8, pattern (test b 16#32) (test b 32#32) (test b 64#32) (test b 128#32)
    = (Spec.nf4.getD (nib 1 b).toNat (0, 0)).2 := by decide +kernel

variable (x : FVec Ideal S128x1x5632 .bf16) (w : IVec S15360x2816 8) (a : FVec Ideal S15360x88 .f32)

theorem scaled_apply (v : FVec Ideal S15360x2816 .f32) (o : Fin 15360) (b : Fin 2816) :
    scaled v a (ix2 o b) = (v (ix2 o b) : EReal) * a (ix2 o (⟨b.val / 32, by omega⟩ : Fin 88)) := by
  pointwise [scaled]

theorem weight_of (wv : Fin 2816 → BitVec 8) (av : Fin 88 → EReal) (k : ℕ) (hk : k < 2) (b : Fin 2816) (pos : Fin 5632)
    (hp : pos.val = 2 * b.val + k) :
    val (nib k (wv b)).toNat * av ⟨b.val / 32, by omega⟩ = weight wv av pos := by
  have e₁ : (⟨pos.val / 2, by omega⟩ : Fin 2816) = b := Fin.ext (by simp only []; omega)
  have e₂ : pos.val % 2 = k := by omega
  have e₃ : (⟨b.val / 32, by omega⟩ : Fin 88) = ⟨pos.val / 64, by omega⟩ := Fin.ext (by simp only []; omega)
  unfold weight
  rw [e₁, e₂, e₃]

theorem lower_apply (o : Fin 15360) (b : Fin 2816) :
    lower w a (ix2 o b) = weight (fun b => w (ix2 o b)) (fun b => a (ix2 o b)) ⟨2 * b.val, by omega⟩ := by
  have e : (value (bit w 1#32) (bit w 2#32) (bit w 4#32) (bit w 8#32) : FVec Ideal S15360x2816 .f32) (ix2 o b)
      = val (nib 0 (w (ix2 o b))).toNat := by
    rw [value_pattern]
    exact congrArg (Ideal.ofBits .f32) (lower_pattern (w (ix2 o b)))
  rw [lower, scaled_apply, e]
  exact weight_of (fun b => w (ix2 o b)) (fun b => a (ix2 o b)) 0 (by decide) b _ rfl

theorem upper_apply (o : Fin 15360) (b : Fin 2816) :
    upper w a (ix2 o b) = weight (fun b => w (ix2 o b)) (fun b => a (ix2 o b)) ⟨2 * b.val + 1, by omega⟩ := by
  have e : (value (bit w 16#32) (bit w 32#32) (bit w 64#32) (bit w 128#32) : FVec Ideal S15360x2816 .f32) (ix2 o b)
      = val (nib 1 (w (ix2 o b))).toNat := by
    rw [value_pattern]
    exact congrArg (Ideal.ofBits .f32) (upper_pattern (w (ix2 o b)))
  rw [upper, scaled_apply, e]
  exact weight_of (fun b => w (ix2 o b)) (fun b => a (ix2 o b)) 1 (by decide) b _ rfl

theorem evenX_apply (t : Fin 128) (b : Fin 2816) : evenX x (ix3 t (0 : Fin 1) b) = x (ix3 t (0 : Fin 1) (⟨2 * b.val, by omega⟩ : Fin 5632)) := by
  have e (p p' : Fin 5632) (h : p.val = p'.val) : x (ix3 t (0 : Fin 1) p) = x (ix3 t (0 : Fin 1) p') := by rw [Fin.ext h]
  pointwise [evenX]
  exact e _ _ (Nat.mul_comm _ _)

theorem oddX_apply (t : Fin 128) (b : Fin 2816) : oddX x (ix3 t (0 : Fin 1) b) = x (ix3 t (0 : Fin 1) (⟨2 * b.val + 1, by omega⟩ : Fin 5632)) := by
  have e (p p' : Fin 5632) (h : p.val = p'.val) : x (ix3 t (0 : Fin 1) p) = x (ix3 t (0 : Fin 1) p') := by rw [Fin.ext h]
  pointwise [oddX]
  exact e _ _ (congrArg (· + 1) (Nat.mul_comm _ _))

/-- The reference's result for a row and an output channel. -/
theorem result_apply (t : Fin 128) (o : Fin 15360) :
    result x w a (ix3 t (0 : Fin 1) o)
      = answer (fun p => x (ix3 t (0 : Fin 1) p)) (fun b => w (ix2 o b)) (fun b => a (ix2 o b)) := by
  rw [answer, sum_places (fun p => x (ix3 t (0 : Fin 1) p) * weight (fun b => w (ix2 o b)) (fun b => a (ix2 o b)) p)]
  pointwise [result, evenX_apply, oddX_apply, lower_apply, upper_apply]

end Cert.Proof.Values

end
-- ==== Proof.Values.Equal.lean ====
/-
  The kernel's result and the reference's are the same array, over the extended reals.
-/
module

public import proofs.«01_k».proof.Proof.Values.Array
public import proofs.«01_k».proof.Proof.Values.Reference

@[expose] public section

noncomputable section

namespace Cert.Proof.Values

open Idealize.ShloMosaic Idealize.ShloMosaic.TcCoe

/-- Both results are, entry by entry, the same answer. -/
theorem results_equal (m : (ℓ : Loc KernelIdeal.nD KernelIdeal.τ KernelIdeal.sig) → Buf (Elt Ideal) ℓ) (c : Dev KernelIdeal.nD) :
    Reference.result (F := Ideal) (argX m c) (argW m c) (argA m c) = outcome m c := by
  funext i
  have hi : i = ix3 (i 0) (0 : Fin 1) (i 2) := by
    funext a
    match a with
    | ⟨0, _⟩ => rfl
    | ⟨1, _⟩ => exact Fin.ext (by have h : (i 1).val < 1 := (i 1).isLt; show (i 1).val = 0; omega)
    | ⟨2, _⟩ => rfl
  rw [hi]
  exact (result_apply (argX m c) (argW m c) (argA m c) (i 0) (i 2)).trans (outcome_apply m c (i 0) (i 2)).symm

end Cert.Proof.Values

end
-- ==== Proof.lean ====
/-
  The certificate: the kernel, its idealization and the reference run, leave their arguments unchanged and every semaphore
  at zero; the one rewrite of the idealization, the rows of packed words read as the roundings interleaved, is sound; over the
  extended reals the kernel and the reference end with the same result.
-/
module

public import proofs.«01_k».proof.Defs
public import proofs.«01_k».proof.Proof.Bits.Frame
public import proofs.«01_k».proof.Proof.Ideal.Frame
public import proofs.«01_k».proof.Proof.Reference
public import proofs.«01_k».proof.Proof.Values.Equal
public import Idealize.ShloMosaic.Lib.Bf16Pair

@[expose] public section

noncomputable section

namespace Cert.Proof

open Idealize.ShloMosaic Idealize.SL.Sem

/-- From arguments that agree, the kernel and the reference end with the same result. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c => Values.outcome m c, Values.kernel_run m g, ?_⟩
  refine θ_run_mono (Reference.run m' g') fun r h c => ⟨(h c).1.trans ?_, (h c).2⟩
  rw [(hagree c).1, (hagree c).2.1, (hagree c).2.2]
  exact Values.results_equal m c

/-- The rewrite is sound at its two shapes: a word of two roundings is the word of their bits, and its rows are theirs
    interleaved. -/
theorem rounds : Cert.preserves_Kernel_KernelIdeal :=
  ⟨IdealRules.bf16_pair.packStatement _, IdealRules.bf16_pair.statement _ _⟩

theorem claim : Cert.Claim := ⟨Cert.Kernel.Gen.facts, Cert.KernelIdeal.Gen.facts, Cert.ReferenceIdeal.Gen.facts,
  fun m g _ => Bits.frame m g, fun m g _ => Ideal.frame m g, fun m g _ => Reference.frame m g,
  rounds, same_result⟩

end Cert.Proof

end
